-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_softmax_defined_KernelIdeal [hPre_softmax_defined_KernelIdeal : Cert.Pre_softmax_defined_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_softmax_defined_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_softmax_defined_ReferenceIdeal [hPre_softmax_defined_ReferenceIdeal : Cert.Pre_softmax_defined_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_softmax_defined_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_softmax_defined_KernelIdeal [hKernelIdeal : Cert.KernelIdeal.Facts] [hPre_softmax_defined_KernelIdeal : Cert.Pre_softmax_defined_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_softmax_defined_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_softmax_defined_ReferenceIdeal [hReferenceIdeal : Cert.ReferenceIdeal.Facts] [hPre_softmax_defined_ReferenceIdeal : Cert.Pre_softmax_defined_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_softmax_defined_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_softmax_defined_KernelIdeal [hKernelIdeal : Cert.KernelIdeal.Facts] [hReferenceIdeal : Cert.ReferenceIdeal.Facts] [hPre_softmax_defined_KernelIdeal : Cert.Pre_softmax_defined_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_softmax_defined_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_softmax_defined_KernelIdeal : Cert.Pre_softmax_defined_KernelIdeal.Facts) (hPre_softmax_defined_ReferenceIdeal : Cert.Pre_softmax_defined_ReferenceIdeal.Facts),
    quiescent_Kernel (hKernel := hKernel)
    ∧ quiescent_KernelIdeal (hKernelIdeal := hKernelIdeal)
    ∧ quiescent_KernelIdeal_pre_softmax_defined_KernelIdeal (hKernelIdeal := hKernelIdeal) (hPre_softmax_defined_KernelIdeal := hPre_softmax_defined_KernelIdeal)
    ∧ quiescent_ReferenceIdeal (hReferenceIdeal := hReferenceIdeal)
    ∧ quiescent_ReferenceIdeal_pre_softmax_defined_ReferenceIdeal (hReferenceIdeal := hReferenceIdeal) (hPre_softmax_defined_ReferenceIdeal := hPre_softmax_defined_ReferenceIdeal)
    ∧ preserves_Kernel_KernelIdeal
    ∧ algebraic_KernelIdeal_ReferenceIdeal_pre_softmax_defined_KernelIdeal (hKernelIdeal := hKernelIdeal) (hReferenceIdeal := hReferenceIdeal) (hPre_softmax_defined_KernelIdeal := hPre_softmax_defined_KernelIdeal)
-- ==== Pre_softmax_defined_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S512x16 : Shape := ⟨2, ![512, 16]⟩
abbrev S_ : Shape := ⟨0, ![]⟩
abbrev S512 : Shape := ⟨1, ![512]⟩

class Facts : Prop where
  reducesTo_S512x16_S512_d1 : S512x16.ReducesTo [1] S512
  h_S_ : 0 < S_.numel
  bcast_S_S512 : S_.BroadcastsInDim S512 (![] : Fin 0 → Fin S512.rank)
  reducesTo_S512_S_d0 : S512.ReducesTo [0] S_
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S2x256x512 .f32) (main_arg4 : FVec F S256x512 .f32) : IVec S_ 1 :=
  let main_v0 : FVec F S512x16 .f32 := (fun l r => Host.dotGeneral dot_S512x256_S256x16_S512x16_1_0_0_1_n_n none l r) main_arg0 main_arg1
  let main_cst : FVec F S_ .f32 := constant S_ .f32 0xFF800000#32
  let main_v1 : FVec F S512 .f32 := (fun x v => Host.reduce FloatOps.maximumf x v reducesTo_S512x16_S512_d1 h_S_) main_v0 main_cst
  let main_v2 : FVec F S512 .f32 := Host.absf main_v1
  let main_cst_0 : FVec F S_ .f32 := constant S_ .f32 0x7F800000#32
  let main_v3 : FVec F S512 .f32 := broadcastInDim S512 ![] bcast_S_S512 main_cst_0
  let main_v4 : IVec S512 1 := cmpf .olt main_v2 main_v3
  let main_c : IVec S_ 1 := constantI S_ 1 1#1
  let main_v5 : IVec S_ 1 := (fun x v => Host.reduce IntOp.andi x v reducesTo_S512_S_d0 h_S_) main_v4 main_c
  main_v5
-- ==== Pre_softmax_defined_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩

class Facts : Prop where
  reducesTo_S512x16_S512_d1 : S512x16.ReducesTo [1] S512
  h_S_ : 0 < S_.numel
  bcast_S_S512 : S_.BroadcastsInDim S512 (![] : Fin 0 → Fin S512.rank)
  reducesTo_S512_S_d0 : S512.ReducesTo [0] S_
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S16x256x512 .f32) (main_arg4 : FVec F S256x512 .f32) : IVec S_ 1 :=
  let main_v0 : FVec F S512x16 .f32 := (fun l r => Host.dotGeneral dot_S512x256_S256x16_S512x16_1_0_0_1_n_n none l r) main_arg0 main_arg1
  let main_cst : FVec F S_ .f32 := constant S_ .f32 0xFF800000#32
  let main_v1 : FVec F S512 .f32 := (fun x v => Host.reduce FloatOps.maximumf x v reducesTo_S512x16_S512_d1 h_S_) main_v0 main_cst
  let main_v2 : FVec F S512 .f32 := Host.absf main_v1
  let main_cst_0 : FVec F S_ .f32 := constant S_ .f32 0x7F800000#32
  let main_v3 : FVec F S512 .f32 := broadcastInDim S512 ![] bcast_S_S512 main_cst_0
  let main_v4 : IVec S512 1 := cmpf .olt main_v2 main_v3
  let main_c : IVec S_ 1 := constantI S_ 1 1#1
  let main_v5 : IVec S_ 1 := (fun x v => Host.reduce IntOp.andi x v reducesTo_S512_S_d0 h_S_) main_v4 main_c
  main_v5
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S64x512 : Shape := ⟨2, ![64, 512]⟩
abbrev S7x64x512 : Shape := ⟨3, ![7, 64, 512]⟩
abbrev S8x64x512 : Shape := ⟨3, ![8, 64, 512]⟩
abbrev S512x512 : Shape := ⟨2, ![512, 512]⟩
abbrev S7 : Shape := ⟨1, ![7]⟩
abbrev S8 : Shape := ⟨1, ![8]⟩
abbrev S3 : Shape := ⟨1, ![3]⟩
abbrev S1 : Shape := ⟨1, ![1]⟩
abbrev S_ : Shape := ⟨0, ![]⟩
abbrev S512x16 : Shape := ⟨2, ![512, 16]⟩
abbrev S512 : Shape := ⟨1, ![512]⟩
abbrev S1x256x512 : Shape := ⟨3, ![1, 256, 512]⟩
abbrev S64x256 : Shape := ⟨2, ![64, 256]⟩
abbrev S1x64x512 : Shape := ⟨3, ![1, 64, 512]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S64x512, .f32⟩
  | .local _ .vmem, ⟨0, _⟩ => ⟨S256x16, .f32⟩
  | .local _ .vmem, ⟨1, _⟩ => ⟨S512x1, .i32⟩
  | .local _ .vmem, ⟨2, _⟩ => ⟨S64x512, .f32⟩
  | .local _ .vmem, ⟨3, _⟩ => ⟨S7x64x512, .bf16⟩
  | .local _ .vmem, ⟨4, _⟩ => ⟨S8x64x512, .bf16⟩
  | .local _ .vmem, ⟨5, _⟩ => ⟨S512x512, .f32⟩
  | .local _ .vmem, ⟨6, _⟩ => ⟨S512x256, .bf16⟩
  | .local _ .vmem, ⟨7, _⟩ => ⟨S512x256, .f32⟩
  | .local _ .vmem, ⟨8, _⟩ => ⟨S2x256x512, .f32⟩
  | .local _ .vmem, ⟨9, _⟩ => ⟨S256x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1 : BitVec 32 := 0#32
  let v10 : BitVec 1 := Scalar.cmpi .ne v2 c0_i32_1
  let v11 : BitVec 32 := Scalar.extui v10
  let c0_i32_2 : BitVec 32 := 0#32
  let v12 : BitVec 1 := Scalar.cmpi .ne v11 c0_i32_2
  v12

def k0_dev1 : Nat :=
  let c0_i32_291 : BitVec 32 := 0#32
  let c0_i32_289 : BitVec 32 := 0#32
  let c1_i32_290 : BitVec 32 := 1#32
  let v407 : BitVec 32 := Scalar.muli c0_i32_289 c1_i32_290
  let v408 : BitVec 32 := Scalar.addi c0_i32_291 v407
  v408.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v13 : BitVec 1 := Scalar.cmpi .ne v2 c1_i32_3
  let v14 : BitVec 32 := Scalar.extui v13
  let c0_i32_4 : BitVec 32 := 0#32
  let v15 : BitVec 1 := Scalar.cmpi .ne v14 c0_i32_4
  v15

def k0_dev2 : Nat :=
  let c0_i32_291 : BitVec 32 := 0#32
  let c1_i32_289 : BitVec 32 := 1#32
  let c1_i32_290 : BitVec 32 := 1#32
  let v407 : BitVec 32 := Scalar.muli c1_i32_289 c1_i32_290
  let v408 : BitVec 32 := Scalar.addi c0_i32_291 v407
  v408.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_5 : BitVec 32 := 2#32
  let v16 : BitVec 1 := Scalar.cmpi .ne v2 c2_i32_5
  let v17 : BitVec 32 := Scalar.extui v16
  let c0_i32_6 : BitVec 32 := 0#32
  let v18 : BitVec 1 := Scalar.cmpi .ne v17 c0_i32_6
  v18

def k0_dev3 : Nat :=
  let c0_i32_291 : BitVec 32 := 0#32
  let c2_i32_289 : BitVec 32 := 2#32
  let c1_i32_290 : BitVec 32 := 1#32
  let v407 : BitVec 32 := Scalar.muli c2_i32_289 c1_i32_290
  let v408 : BitVec 32 := Scalar.addi c0_i32_291 v407
  v408.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 1 := Scalar.cmpi .ne v2 c3_i32
  let v20 : BitVec 32 := Scalar.extui v19
  let c0_i32_7 : BitVec 32 := 0#32
  let v21 : BitVec 1 := Scalar.cmpi .ne v20 c0_i32_7
  v21

def k0_dev4 : Nat :=
  let c0_i32_291 : BitVec 32 := 0#32
  let c3_i32_289 : BitVec 32 := 3#32
  let c1_i32_290 : BitVec 32 := 1#32
  let v407 : BitVec 32 := Scalar.muli c3_i32_289 c1_i32_290
  let v408 : BitVec 32 := Scalar.addi c0_i32_291 v407
  v408.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 1 := Scalar.cmpi .ne v2 c4_i32
  let v23 : BitVec 32 := Scalar.extui v22
  let c0_i32_8 : BitVec 32 := 0#32
  let v24 : BitVec 1 := Scalar.cmpi .ne v23 c0_i32_8
  v24

def k0_dev5 : Nat :=
  let c0_i32_291 : BitVec 32 := 0#32
  let c4_i32_289 : BitVec 32 := 4#32
  let c1_i32_290 : BitVec 32 := 1#32
  let v407 : BitVec 32 := Scalar.muli c4_i32_289 c1_i32_290
  let v408 : BitVec 32 := Scalar.addi c0_i32_291 v407
  v408.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 1 := Scalar.cmpi .ne v2 c5_i32
  let v26 : BitVec 32 := Scalar.extui v25
  let c0_i32_9 : BitVec 32 := 0#32
  let v27 : BitVec 1 := Scalar.cmpi .ne v26 c0_i32_9
  v27

def k0_dev6 : Nat :=
  let c0_i32_291 : BitVec 32 := 0#32
  let c5_i32_289 : BitVec 32 := 5#32
  let c1_i32_290 : BitVec 32 := 1#32
  let v407 : BitVec 32 := Scalar.muli c5_i32_289 c1_i32_290
  let v408 : BitVec 32 := Scalar.addi c0_i32_291 v407
  v408.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 1 := Scalar.cmpi .ne v2 c6_i32
  let v29 : BitVec 32 := Scalar.extui v28
  let c0_i32_10 : BitVec 32 := 0#32
  let v30 : BitVec 1 := Scalar.cmpi .ne v29 c0_i32_10
  v30

def k0_dev7 : Nat :=
  let c0_i32_291 : BitVec 32 := 0#32
  let c6_i32_289 : BitVec 32 := 6#32
  let c1_i32_290 : BitVec 32 := 1#32
  let v407 : BitVec 32 := Scalar.muli c6_i32_289 c1_i32_290
  let v408 : BitVec 32 := Scalar.addi c0_i32_291 v407
  v408.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 1 := Scalar.cmpi .ne v2 c7_i32
  let v32 : BitVec 32 := Scalar.extui v31
  let c0_i32_11 : BitVec 32 := 0#32
  let v33 : BitVec 1 := Scalar.cmpi .ne v32 c0_i32_11
  v33

def k0_dev8 : Nat :=
  let c0_i32_291 : BitVec 32 := 0#32
  let c7_i32_289 : BitVec 32 := 7#32
  let c1_i32_290 : BitVec 32 := 1#32
  let v407 : BitVec 32 := Scalar.muli c7_i32_289 c1_i32_290
  let v408 : BitVec 32 := Scalar.addi c0_i32_291 v407
  v408.toNat
def k0_off1 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v93 : BitVec 32 := Scalar.addi v2 c1_i32_36
  let v94 : BitVec 32 := Scalar.addi v93 c0_i32_37
  let c8_i32_38 : BitVec 32 := 8#32
  let c0_i32_39 : BitVec 32 := 0#32
  let v95 : BitVec 1 := Scalar.cmpi .eq c8_i32_38 c0_i32_39
  let c1_i32_40 : BitVec 32 := 1#32
  let v96 : BitVec 32 := Scalar.select v95 c1_i32_40 c8_i32_38
  let v97 : BitVec 32 := Scalar.remsi v94 v96
  let c0_i32_42 : BitVec 32 := 0#32
  let v99 : BitVec 1 := Scalar.cmpi .slt v97 c0_i32_42
  let c0_i32_43 : BitVec 32 := 0#32
  let v100 : BitVec 1 := Scalar.cmpi .slt v96 c0_i32_43
  let v101 : BitVec 1 := Scalar.xori v99 v100
  let c0_i32_41 : BitVec 32 := 0#32
  let v98 : BitVec 1 := Scalar.cmpi .ne v97 c0_i32_41
  let v102 : BitVec 1 := Scalar.andi v101 v98
  let v103 : BitVec 32 := Scalar.addi v97 v96
  let v104 : BitVec 32 := Scalar.select v102 v103 v97
  let c64_i32 : BitVec 32 := 64#32
  let v105 : BitVec 32 := Scalar.muli v104 c64_i32
  let v106 : Index := Scalar.indexCast v105
  let c0_44 : Index := 0#32
  ![v106.toNat, 0]
def k0_off2 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v93 : BitVec 32 := Scalar.addi v2 c1_i32_36
  let v94 : BitVec 32 := Scalar.addi v93 c0_i32_37
  let c8_i32_38 : BitVec 32 := 8#32
  let c0_i32_39 : BitVec 32 := 0#32
  let v95 : BitVec 1 := Scalar.cmpi .eq c8_i32_38 c0_i32_39
  let c1_i32_40 : BitVec 32 := 1#32
  let v96 : BitVec 32 := Scalar.select v95 c1_i32_40 c8_i32_38
  let v97 : BitVec 32 := Scalar.remsi v94 v96
  let c0_i32_42 : BitVec 32 := 0#32
  let v99 : BitVec 1 := Scalar.cmpi .slt v97 c0_i32_42
  let c0_i32_43 : BitVec 32 := 0#32
  let v100 : BitVec 1 := Scalar.cmpi .slt v96 c0_i32_43
  let v101 : BitVec 1 := Scalar.xori v99 v100
  let c0_i32_41 : BitVec 32 := 0#32
  let v98 : BitVec 1 := Scalar.cmpi .ne v97 c0_i32_41
  let v102 : BitVec 1 := Scalar.andi v101 v98
  let v103 : BitVec 32 := Scalar.addi v97 v96
  let v104 : BitVec 32 := Scalar.select v102 v103 v97
  let c64_i32 : BitVec 32 := 64#32
  let v105 : BitVec 32 := Scalar.muli v104 c64_i32
  let v109 : Index := Scalar.indexCast v105
  let c0_46 : Index := 0#32
  ![v109.toNat, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  let c0_i32_55 : BitVec 32 := 0#32
  ![v2.toNat, 0, 0]
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v93 : BitVec 32 := Scalar.addi v2 c1_i32_36
  let c0_i32_37 : BitVec 32 := 0#32
  let v94 : BitVec 32 := Scalar.addi v93 c0_i32_37
  let c8_i32_38 : BitVec 32 := 8#32
  let c0_i32_39 : BitVec 32 := 0#32
  let v95 : BitVec 1 := Scalar.cmpi .eq c8_i32_38 c0_i32_39
  let c1_i32_40 : BitVec 32 := 1#32
  let v96 : BitVec 32 := Scalar.select v95 c1_i32_40 c8_i32_38
  let v97 : BitVec 32 := Scalar.remsi v94 v96
  let c0_i32_42 : BitVec 32 := 0#32
  let v99 : BitVec 1 := Scalar.cmpi .slt v97 c0_i32_42
  let c0_i32_43 : BitVec 32 := 0#32
  let v100 : BitVec 1 := Scalar.cmpi .slt v96 c0_i32_43
  let v101 : BitVec 1 := Scalar.xori v99 v100
  let c0_i32_41 : BitVec 32 := 0#32
  let v98 : BitVec 1 := Scalar.cmpi .ne v97 c0_i32_41
  let v102 : BitVec 1 := Scalar.andi v101 v98
  let v103 : BitVec 32 := Scalar.addi v97 v96
  let v104 : BitVec 32 := Scalar.select v102 v103 v97
  let c1_i32_52 : BitVec 32 := 1#32
  let v116 : BitVec 32 := Scalar.muli v104 c1_i32_52
  let v117 : BitVec 32 := Scalar.addi c0_i32_53 v116
  v117.toNat
def k0_dev10 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v126 : BitVec 32 := Scalar.addi v2 c1_i32_58
  let c1_i32_59 : BitVec 32 := 1#32
  let v127 : BitVec 32 := Scalar.addi v126 c1_i32_59
  let c8_i32_60 : BitVec 32 := 8#32
  let c0_i32_61 : BitVec 32 := 0#32
  let v128 : BitVec 1 := Scalar.cmpi .eq c8_i32_60 c0_i32_61
  let c1_i32_62 : BitVec 32 := 1#32
  let v129 : BitVec 32 := Scalar.select v128 c1_i32_62 c8_i32_60
  let v130 : BitVec 32 := Scalar.remsi v127 v129
  let c0_i32_64 : BitVec 32 := 0#32
  let v132 : BitVec 1 := Scalar.cmpi .slt v130 c0_i32_64
  let c0_i32_65 : BitVec 32 := 0#32
  let v133 : BitVec 1 := Scalar.cmpi .slt v129 c0_i32_65
  let v134 : BitVec 1 := Scalar.xori v132 v133
  let c0_i32_63 : BitVec 32 := 0#32
  let v131 : BitVec 1 := Scalar.cmpi .ne v130 c0_i32_63
  let v135 : BitVec 1 := Scalar.andi v134 v131
  let v136 : BitVec 32 := Scalar.addi v130 v129
  let v137 : BitVec 32 := Scalar.select v135 v136 v130
  let c1_i32_75 : BitVec 32 := 1#32
  let v149 : BitVec 32 := Scalar.muli v137 c1_i32_75
  let v150 : BitVec 32 := Scalar.addi c0_i32_76 v149
  v150.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v159 : BitVec 32 := Scalar.addi v2 c1_i32_81
  let c2_i32_82 : BitVec 32 := 2#32
  let v160 : BitVec 32 := Scalar.addi v159 c2_i32_82
  let c8_i32_83 : BitVec 32 := 8#32
  let c0_i32_84 : BitVec 32 := 0#32
  let v161 : BitVec 1 := Scalar.cmpi .eq c8_i32_83 c0_i32_84
  let c1_i32_85 : BitVec 32 := 1#32
  let v162 : BitVec 32 := Scalar.select v161 c1_i32_85 c8_i32_83
  let v163 : BitVec 32 := Scalar.remsi v160 v162
  let c0_i32_87 : BitVec 32 := 0#32
  let v165 : BitVec 1 := Scalar.cmpi .slt v163 c0_i32_87
  let c0_i32_88 : BitVec 32 := 0#32
  let v166 : BitVec 1 := Scalar.cmpi .slt v162 c0_i32_88
  let v167 : BitVec 1 := Scalar.xori v165 v166
  let c0_i32_86 : BitVec 32 := 0#32
  let v164 : BitVec 1 := Scalar.cmpi .ne v163 c0_i32_86
  let v168 : BitVec 1 := Scalar.andi v167 v164
  let v169 : BitVec 32 := Scalar.addi v163 v162
  let v170 : BitVec 32 := Scalar.select v168 v169 v163
  let c1_i32_97 : BitVec 32 := 1#32
  let v182 : BitVec 32 := Scalar.muli v170 c1_i32_97
  let v183 : BitVec 32 := Scalar.addi c0_i32_98 v182
  v183.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v192 : BitVec 32 := Scalar.addi v2 c1_i32_103
  let c3_i32_104 : BitVec 32 := 3#32
  let v193 : BitVec 32 := Scalar.addi v192 c3_i32_104
  let c8_i32_105 : BitVec 32 := 8#32
  let c0_i32_106 : BitVec 32 := 0#32
  let v194 : BitVec 1 := Scalar.cmpi .eq c8_i32_105 c0_i32_106
  let c1_i32_107 : BitVec 32 := 1#32
  let v195 : BitVec 32 := Scalar.select v194 c1_i32_107 c8_i32_105
  let v196 : BitVec 32 := Scalar.remsi v193 v195
  let c0_i32_109 : BitVec 32 := 0#32
  let v198 : BitVec 1 := Scalar.cmpi .slt v196 c0_i32_109
  let c0_i32_110 : BitVec 32 := 0#32
  let v199 : BitVec 1 := Scalar.cmpi .slt v195 c0_i32_110
  let v200 : BitVec 1 := Scalar.xori v198 v199
  let c0_i32_108 : BitVec 32 := 0#32
  let v197 : BitVec 1 := Scalar.cmpi .ne v196 c0_i32_108
  let v201 : BitVec 1 := Scalar.andi v200 v197
  let v202 : BitVec 32 := Scalar.addi v196 v195
  let v203 : BitVec 32 := Scalar.select v201 v202 v196
  let c1_i32_119 : BitVec 32 := 1#32
  let v215 : BitVec 32 := Scalar.muli v203 c1_i32_119
  let v216 : BitVec 32 := Scalar.addi c0_i32_120 v215
  v216.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_125 : BitVec 32 := 1#32
  let v225 : BitVec 32 := Scalar.addi v2 c1_i32_125
  let c4_i32_126 : BitVec 32 := 4#32
  let v226 : BitVec 32 := Scalar.addi v225 c4_i32_126
  let c8_i32_127 : BitVec 32 := 8#32
  let c0_i32_128 : BitVec 32 := 0#32
  let v227 : BitVec 1 := Scalar.cmpi .eq c8_i32_127 c0_i32_128
  let c1_i32_129 : BitVec 32 := 1#32
  let v228 : BitVec 32 := Scalar.select v227 c1_i32_129 c8_i32_127
  let v229 : BitVec 32 := Scalar.remsi v226 v228
  let c0_i32_131 : BitVec 32 := 0#32
  let v231 : BitVec 1 := Scalar.cmpi .slt v229 c0_i32_131
  let c0_i32_132 : BitVec 32 := 0#32
  let v232 : BitVec 1 := Scalar.cmpi .slt v228 c0_i32_132
  let v233 : BitVec 1 := Scalar.xori v231 v232
  let c0_i32_130 : BitVec 32 := 0#32
  let v230 : BitVec 1 := Scalar.cmpi .ne v229 c0_i32_130
  let v234 : BitVec 1 := Scalar.andi v233 v230
  let v235 : BitVec 32 := Scalar.addi v229 v228
  let v236 : BitVec 32 := Scalar.select v234 v235 v229
  let c1_i32_141 : BitVec 32 := 1#32
  let v248 : BitVec 32 := Scalar.muli v236 c1_i32_141
  let v249 : BitVec 32 := Scalar.addi c0_i32_142 v248
  v249.toNat
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_147 : BitVec 32 := 1#32
  let v258 : BitVec 32 := Scalar.addi v2 c1_i32_147
  let c5_i32_148 : BitVec 32 := 5#32
  let v259 : BitVec 32 := Scalar.addi v258 c5_i32_148
  let c8_i32_149 : BitVec 32 := 8#32
  let c0_i32_150 : BitVec 32 := 0#32
  let v260 : BitVec 1 := Scalar.cmpi .eq c8_i32_149 c0_i32_150
  let c1_i32_151 : BitVec 32 := 1#32
  let v261 : BitVec 32 := Scalar.select v260 c1_i32_151 c8_i32_149
  let v262 : BitVec 32 := Scalar.remsi v259 v261
  let c0_i32_153 : BitVec 32 := 0#32
  let v264 : BitVec 1 := Scalar.cmpi .slt v262 c0_i32_153
  let c0_i32_154 : BitVec 32 := 0#32
  let v265 : BitVec 1 := Scalar.cmpi .slt v261 c0_i32_154
  let v266 : BitVec 1 := Scalar.xori v264 v265
  let c0_i32_152 : BitVec 32 := 0#32
  let v263 : BitVec 1 := Scalar.cmpi .ne v262 c0_i32_152
  let v267 : BitVec 1 := Scalar.andi v266 v263
  let v268 : BitVec 32 := Scalar.addi v262 v261
  let v269 : BitVec 32 := Scalar.select v267 v268 v262
  let c1_i32_163 : BitVec 32 := 1#32
  let v281 : BitVec 32 := Scalar.muli v269 c1_i32_163
  let v282 : BitVec 32 := Scalar.addi c0_i32_164 v281
  v282.toNat
def k0_dev15 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v291 : BitVec 32 := Scalar.addi v2 c1_i32_169
  let c6_i32_170 : BitVec 32 := 6#32
  let v292 : BitVec 32 := Scalar.addi v291 c6_i32_170
  let c8_i32_171 : BitVec 32 := 8#32
  let c0_i32_172 : BitVec 32 := 0#32
  let v293 : BitVec 1 := Scalar.cmpi .eq c8_i32_171 c0_i32_172
  let c1_i32_173 : BitVec 32 := 1#32
  let v294 : BitVec 32 := Scalar.select v293 c1_i32_173 c8_i32_171
  let v295 : BitVec 32 := Scalar.remsi v292 v294
  let c0_i32_175 : BitVec 32 := 0#32
  let v297 : BitVec 1 := Scalar.cmpi .slt v295 c0_i32_175
  let c0_i32_176 : BitVec 32 := 0#32
  let v298 : BitVec 1 := Scalar.cmpi .slt v294 c0_i32_176
  let v299 : BitVec 1 := Scalar.xori v297 v298
  let c0_i32_174 : BitVec 32 := 0#32
  let v296 : BitVec 1 := Scalar.cmpi .ne v295 c0_i32_174
  let v300 : BitVec 1 := Scalar.andi v299 v296
  let v301 : BitVec 32 := Scalar.addi v295 v294
  let v302 : BitVec 32 := Scalar.select v300 v301 v295
  let c1_i32_185 : BitVec 32 := 1#32
  let v314 : BitVec 32 := Scalar.muli v302 c1_i32_185
  let v315 : BitVec 32 := Scalar.addi c0_i32_186 v314
  v315.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_191 : BitVec 32 := 64#32
  let v324 : BitVec 32 := Scalar.muli v2 c64_i32_191
  let v325 : Index := Scalar.indexCast v324
  let c0_192 : Index := 0#32
  ![v325.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_191 : BitVec 32 := 64#32
  let v324 : BitVec 32 := Scalar.muli v2 c64_i32_191
  let v328 : Index := Scalar.indexCast v324
  let c0_194 : Index := 0#32
  ![v328.toNat, 0]
abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S512x256x512 : Shape := ⟨3, ![512, 256, 512]⟩

abbrev nBuf : Space → Nat
  | .hbm => 44
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S256x512, .f32⟩
  | .hbm, ⟨5, _⟩ => ⟨S512x16, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x16, .f32⟩
  | .hbm, ⟨10, _⟩ => ⟨S512x16, .f32⟩
  | .hbm, ⟨11, _⟩ => ⟨S512x16, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x16, .f32⟩
  | .hbm, ⟨16, _⟩ => ⟨S512x16, .f32⟩
  | .hbm, ⟨17, _⟩ => ⟨S512x512, .f32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512x1, .i32⟩
  | .hbm, ⟨22, _⟩ => ⟨S512x2, .i32⟩
  | .hbm, ⟨23, _⟩ => ⟨S2, .i32⟩
  | .hbm, ⟨24, _⟩ => ⟨S_, .i32⟩
  | .hbm, ⟨25, _⟩ => ⟨S512x2, .i32⟩
  | .hbm, ⟨26, _⟩ => ⟨S512x2, .i1⟩
  | .hbm, ⟨27, _⟩ => ⟨S1x2, .i32⟩
  | .hbm, ⟨28, _⟩ => ⟨S512x2, .i32⟩
  | .hbm, ⟨29, _⟩ => ⟨S512x2, .i1⟩
  | .hbm, ⟨30, _⟩ => ⟨S512x2, .i1⟩
  | .hbm, ⟨31, _⟩ => ⟨S_, .i1⟩
  | .hbm, ⟨32, _⟩ => ⟨S512, .i1⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x1, .i32⟩
  | .hbm, ⟨38, _⟩ => ⟨S512x256x512, .f32⟩
  | .hbm, ⟨39, _⟩ => ⟨S512x1, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Proto.lean ====
/-
The protocol of the kernel, written down once: its cells, the contents that travel through them, the schedule of their
duties, what each device owes at launch and the levels of the waits.

Device `c` holds a send buffer of seven rows and a receive buffer of eight. Row `k` of the send buffer goes to device
`tgt c k`, into row `c` of its receive buffer. So row `s` of device `c`'s receive buffer is written by device `s`, once.

Cells of device `c`, each used for one round:
* the barrier cell: every other device `d` raises it by one, handing `c` row `c` of `d`'s receive buffer;
* send cell `k`: raised by the transfer of send row `k`, giving the row back;
* receive cell `s`: raised by device `s`'s transfer, giving row `s` of the receive buffer at `s`'s chunk for `c`
  (no duty at `s = c`: nothing is sent there);
* load cell `j`: raised by one of the three local copies, giving the source back and the destination loaded.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Devices -/

/-- The device that send row `k` of device `c` goes to. -/
def tgt (c : Dev nD) (k : Fin 7) : Dev nD := ⟨(c.val + 1 + k.val) % 8, Nat.mod_lt _ (by decide)⟩

/-- No device sends to itself. -/
theorem tgt_ne (c : Dev nD) (k : Fin 7) : tgt c k ≠ c := by revert c k; decide
/-- The send rows go to distinct devices. -/
theorem tgt_inj (c : Dev nD) : Function.Injective (tgt c) := by revert c; decide
/-- The targets of a device are all the other devices. -/
theorem tgt_image (c : Dev nD) : Finset.univ.erase c = Finset.univ.map ⟨tgt c, tgt_inj c⟩ := by revert c; decide

/-! ## Buffers, rows -/

abbrev xM : Memref sig .tc .hbm S512x256 .f32 := Memref.whole main_arg0
abbrev eM : Memref sig .tc .hbm S2x256x512 .f32 := Memref.whole main_arg3
abbrev wM : Memref sig .tc .hbm S256x512 .f32 := Memref.whole main_arg4
abbrev gM : Memref sig .tc .vmem S256x16 .f32 := Memref.whole cc0_stg0_0
abbrev iM : Memref sig .tc .vmem S512x1 .i32 := Memref.whole cc0_stg1_0
abbrev oM : Memref sig .tc .vmem S64x512 .f32 := Memref.whole cc0_stg2_0
abbrev sM : Memref sig .tc .vmem S7x64x512 .bf16 := Memref.whole cc0_scratch0
abbrev rM : Memref sig .tc .vmem S8x64x512 .bf16 := Memref.whole cc0_scratch1
abbrev dM : Memref sig .tc .vmem S512x512 .f32 := Memref.whole cc0_scratch2
abbrev yM : Memref sig .tc .vmem S512x256 .bf16 := Memref.whole cc0_scratch3
abbrev xV : Memref sig .tc .vmem S512x256 .f32 := Memref.whole cc0_scratch4
abbrev eV : Memref sig .tc .vmem S2x256x512 .f32 := Memref.whole cc0_scratch5
abbrev wV : Memref sig .tc .vmem S256x512 .f32 := Memref.whole cc0_scratch6

/-- Row `k` lies within the send buffer. -/
theorem inbS (k : Fin 7) : ∀ a, (![k.val, 0, 0] : Fin 3 → Nat) a + S1x64x512.size a ≤ S7x64x512.size a := by revert k; decide
/-- Row `s` lies within the receive buffer. -/
theorem inbR (s : Fin 8) : ∀ a, (![s.val, 0, 0] : Fin 3 → Nat) a + S1x64x512.size a ≤ S8x64x512.size a := by revert s; decide
/-- Chunk `t` lies within the scaled input. -/
theorem inbY (t : Fin 8) : ∀ a, (![64 * t.val, 0] : Fin 2 → Nat) a + S64x256.size a ≤ S512x256.size a := by revert t; decide
/-- Chunk `t` lies within the partial product. -/
theorem inbD (t : Fin 8) : ∀ a, (![64 * t.val, 0] : Fin 2 → Nat) a + S64x512.size a ≤ S512x512.size a := by revert t; decide

/-- Row `k` of the send buffer, row `s` of the receive buffer. -/
abbrev sR (k : Fin 7) : Rect S7x64x512 := Rect.unit (s := S7x64x512) ![k.val, 0, 0] S1x64x512.size (inbS k)
abbrev rR (s : Fin 8) : Rect S8x64x512 := Rect.unit (s := S8x64x512) ![s.val, 0, 0] S1x64x512.size (inbR s)
/-- The 64 rows of chunk `t` of the scaled input and of the partial product. -/
abbrev yR (t : Fin 8) : Rect S512x256 := Rect.unit (s := S512x256) ![64 * t.val, 0] S64x256.size (inbY t)
abbrev dR (t : Fin 8) : Rect S512x512 := Rect.unit (s := S512x512) ![64 * t.val, 0] S64x512.size (inbD t)
/-- The two experts a device holds. -/
abbrev e0R : Rect S2x256x512 := Rect.unit (s := S2x256x512) ![0, 0, 0] S1x256x512.size inb_S2x256x512_S1x256x512_0_0_0
abbrev e1R : Rect S2x256x512 := Rect.unit (s := S2x256x512) ![1, 0, 0] S1x256x512.size inb_S2x256x512_S1x256x512_1_0_0

/-- The same rows as the transfers name them. -/
abbrev sRow (k : Fin 7) : Memref sig .tc .vmem S64x512 .bf16 := (sM.slice (sR k) (fun _ => rfl)).squeeze S64x512 squeezes_S1x64x512_S64x512
abbrev rRow (s : Fin 8) : Memref sig .tc .vmem S64x512 .bf16 := (rM.slice (rR s) (fun _ => rfl)).squeeze S64x512 squeezes_S1x64x512_S64x512

/-- A send row covers the same elements under both names. -/
theorem sRow_set (k : Fin 7) : (sRow k).view.set = (sM.access (sR k)).set := View.set_reshape _ _
/-- A receive row covers the same elements under both names. -/
theorem rRow_set (s : Fin 8) : (rRow s).view.set = (rM.access (rR s)).set := View.set_reshape _ _

/-! ## Cells -/

/-- The kernel's cells of one device: seven send, eight receive, three load, one barrier. -/
abbrev J : Type := Fin 7 ⊕ (Fin 8 ⊕ (Fin 3 ⊕ Unit))
abbrev jS (k : Fin 7) : J := .inl k
abbrev jR (s : Fin 8) : J := .inr (.inl s)
abbrev jL (j : Fin 3) : J := .inr (.inr (.inl j))
abbrev jB : J := .inr (.inr (.inr ()))

abbrev barS : Sem sig := (SemArray.scalar (sig.barrier 0 rfl) : Sems sig S_).sem
def sndS (k : Fin 7) : DmaSem sig := ⟨3 + k.val, by have := k.isLt; show 3 + k.val < 21; omega⟩
def rcvS (s : Fin 8) : DmaSem sig := ⟨10 + s.val, by have := s.isLt; show 10 + s.val < 21; omega⟩
def lodS (j : Fin 3) : DmaSem sig := ⟨18 + j.val, by have := j.isLt; show 18 + j.val < 21; omega⟩

def csem : J → SemLoc sig
  | .inl k => .dma (sndS k)
  | .inr (.inl s) => .dma (rcvS s)
  | .inr (.inr (.inl j)) => .dma (lodS j)
  | .inr (.inr (.inr _)) => .reg barS

/-- Which cell of the kernel a semaphore is. -/
def kind : SemLoc sig → Option J
  | .reg s => if s = barS then some jB else none
  | .dma q =>
    if h : q.val < 3 then none
    else if h : q.val < 10 then some (jS ⟨q.val - 3, by omega⟩)
    else if h : q.val < 18 then some (jR ⟨q.val - 10, by omega⟩)
    else some (jL ⟨q.val - 18, by have h' : q.val < 21 := q.isLt; omega⟩)

/-- The semaphore of a cell is of that cell's kind. -/
theorem kind_csem (j : J) : kind (csem j) = some j := by revert j; decide

/-- Distinct cells of a device have distinct semaphores. -/
theorem csem_injective : Function.Injective csem := fun j j' h => by
  have := congrArg kind h; rw [kind_csem, kind_csem] at this; exact Option.some.inj this

abbrev kcell (cj : Dev nD × J) : GSem nD τ sig := ((cj.1 : Thread nD τ), csem cj.2)
abbrev barCell (c : Dev nD) : GSem nD τ sig := ((c : Thread nD τ), .reg barS)
abbrev sndCell (c : Dev nD) (k : Fin 7) : GSem nD τ sig := ((c : Thread nD τ), .dma (sndS k))
abbrev rcvCell (c : Dev nD) (s : Fin 8) : GSem nD τ sig := ((c : Thread nD τ), .dma (rcvS s))
abbrev lodCell (c : Dev nD) (j : Fin 3) : GSem nD τ sig := ((c : Thread nD τ), .dma (lodS j))

/-- The credit of one row, and of each local copy. -/
abbrev N : ℕ := (rRow 0).view.dmaCredit
/-- The credit of a row is positive. -/
theorem N_pos : 0 < N := View.dmaCredit_pos _ (by decide)
def NL : Fin 3 → ℕ
  | 0 => xV.view.dmaCredit
  | 1 => eV.view.dmaCredit
  | 2 => wV.view.dmaCredit
/-- The credit of a local copy is positive. -/
theorem NL_pos (j : Fin 3) : 0 < NL j := by
  fin_cases j
  · exact View.dmaCredit_pos xV.view (by decide)
  · exact View.dmaCredit_pos eV.view (by decide)
  · exact View.dmaCredit_pos wV.view (by decide)

/-- Every receive row has the same credit. -/
theorem credit_rRow (s : Fin 8) : (rRow s).view.dmaCredit = N := rfl
/-- Every send row has the credit of a receive row. -/
theorem credit_sRow (k : Fin 7) : (sRow k).view.dmaCredit = N := rfl

/-! ## Contents -/

/-- The inputs of device `c` as the kernel reads them: rows, routing weights, expert numbers, experts, shared expert. -/
def xs (c : Dev nD) : (cc0_scratch4 : Ref sig .tc).ty.Contents (Elt F) := xM.view.read (Elt F) (m ((c : Thread nD τ).loc main_arg0))
def es (c : Dev nD) : (cc0_scratch5 : Ref sig .tc).ty.Contents (Elt F) := eM.view.read (Elt F) (m ((c : Thread nD τ).loc main_arg3))
def ws (c : Dev nD) : (cc0_scratch6 : Ref sig .tc).ty.Contents (Elt F) := wM.view.read (Elt F) (m ((c : Thread nD τ).loc main_arg4))
def gs (c : Dev nD) : (cc0_stg0_0 : Ref sig .tc).ty.Contents (Elt F) := (win0_0.blk (0 : Fin 1)).view.read (Elt F) ((s₀ m ρ).mem ((c : Thread nD τ).loc main_arg1))
def is (c : Dev nD) : (cc0_stg1_0 : Ref sig .tc).ty.Contents (Elt F) := (win0_1.blk (0 : Fin 1)).view.read (Elt F) ((s₀ m ρ).mem ((c : Thread nD τ).loc main_arg2))

/-- The device's own number as the kernel computes it. -/
abbrev w2 (c : Dev nD) : BitVec 32 := Scalar.remsi (Scalar.divsi (Dev.word c) 1#32) 8#32

/-- The product of the first expert, the input scaled for the second expert, the second expert. -/
def dC (c : Dev nD) : (cc0_scratch2 : Ref sig .tc).ty.Contents (Elt F) :=
  k0_pay5 (xs m c) (k0_pay3 (w2 c) (xs m c) (gs m ρ c) (is m ρ c)) (eV.view.readAt (Elt F) e0R.toLoadRect (es m c))
def yC (c : Dev nD) : (cc0_scratch3 : Ref sig .tc).ty.Contents (Elt F) :=
  k0_pay6 (xs m c) (k0_pay2 (xs m c) (gs m ρ c) (is m ρ c)) (k0_pay4 (w2 c) (is m ρ c))
def e1C (c : Dev nD) : FVec F S256x512 .bf16 := k0_pay7 (eV.view.readAt (Elt F) e1R.toLoadRect (es m c))

/-- The chunk device `c` computes for device `t`. -/
def chunk (c t : Dev nD) : FVec F S1x64x512 .bf16 :=
  k0_pay8 (e1C m c) (yM.view.readAt (Elt F) (yR t).toLoadRect (yC m ρ c)) (dM.view.readAt (Elt F) (dR t).toLoadRect (dC m ρ c))

/-- Device `c`'s result before any received chunk, and with the chunks of the devices below `n` added. -/
def out0 (c : Dev nD) : FVec F S64x512 .f32 :=
  k0_pay19 (e1C m c) (yM.view.readAt (Elt F) (yR c).toLoadRect (yC m ρ c)) (dM.view.readAt (Elt F) (dR c).toLoadRect (dC m ρ c))
    (xV.view.readAt (Elt F) (yR c).toLoadRect (xs m c)) (ws m c)
def accStep (c s : Dev nD) (a : FVec F S64x512 .f32) : FVec F S64x512 .f32 := if s = c then a else k0_pay20 a (chunk m ρ s c)
def outC (c : Dev nD) : (cc0_stg2_0 : Ref sig .tc).ty.Contents (Elt F) :=
  accStep m ρ c 7 (accStep m ρ c 6 (accStep m ρ c 5 (accStep m ρ c 4 (accStep m ρ c 3 (accStep m ρ c 2 (accStep m ρ c 1 (accStep m ρ c 0 (out0 m ρ c))))))))

/-! ## The pieces of memory that change hands -/

def sPts (c : Dev nD) (k : Fin 7) (f : Buf (Elt F) ((c : Thread nD τ).loc cc0_scratch0)) : sProp 𝕄 :=
  (c : Thread nD τ).loc cc0_scratch0 ↦[(sM.access (sR k)).set]{fullShare} f
def rPts (c : Dev nD) (s : Fin 8) (f : Buf (Elt F) ((c : Thread nD τ).loc cc0_scratch1)) : sProp 𝕄 :=
  (c : Thread nD τ).loc cc0_scratch1 ↦[(rM.access (rR s)).set]{fullShare} f

/-- A send row, a receive row at any contents. -/
def sAny (c : Dev nD) (k : Fin 7) : sProp 𝕄 := iprop(∃ f, sPts c k f)
def rAny (c : Dev nD) (s : Fin 8) : sProp 𝕄 := iprop(∃ f, rPts c s f)
/-- Row `s` of device `c`'s receive buffer at the chunk device `s` sends it. -/
def rGot (c : Dev nD) (s : Fin 8) : sProp 𝕄 := iprop(∃ f, ⌜(rM.access (rR s)).read (Elt F) f = chunk m ρ s c⌝ ∗ rPts c s f)

/-- What the three local copies leave: the destination loaded, and the source. -/
def lodPay (c : Dev nD) : Fin 3 → sProp 𝕄
  | 0 => iprop(((c : Thread nD τ).loc cc0_scratch4 ↦{fullShare} xs m c) ∗ ((c : Thread nD τ).loc main_arg0 ↦{fullShare} m ((c : Thread nD τ).loc main_arg0)))
  | 1 => iprop(((c : Thread nD τ).loc cc0_scratch5 ↦{fullShare} es m c) ∗ ((c : Thread nD τ).loc main_arg3 ↦{fullShare} m ((c : Thread nD τ).loc main_arg3)))
  | 2 => iprop(((c : Thread nD τ).loc cc0_scratch6 ↦{fullShare} ws m c) ∗ ((c : Thread nD τ).loc main_arg4 ↦{fullShare} m ((c : Thread nD τ).loc main_arg4)))

omit [FloatOps F] in
instance sPts_storable (c : Dev nD) (k : Fin 7) (f) : BI.Storable (upEmb : UEmb _ 𝕄) (sPts (F := F) c k f) := by unfold sPts; infer_instance
omit [FloatOps F] in
instance rPts_storable (c : Dev nD) (s : Fin 8) (f) : BI.Storable (upEmb : UEmb _ 𝕄) (rPts (F := F) c s f) := by unfold rPts; infer_instance
omit [FloatOps F] in
instance sAny_storable (c : Dev nD) (k : Fin 7) : BI.Storable (upEmb : UEmb _ 𝕄) (sAny (F := F) c k) := by unfold sAny; infer_instance
omit [FloatOps F] in
instance rAny_storable (c : Dev nD) (s : Fin 8) : BI.Storable (upEmb : UEmb _ 𝕄) (rAny (F := F) c s) := by unfold rAny; infer_instance
instance rGot_storable (c : Dev nD) (s : Fin 8) : BI.Storable (upEmb : UEmb _ 𝕄) (rGot m ρ c s) := by unfold rGot; infer_instance
omit [FloatOps F] in
instance lodPay_storable (c : Dev nD) (j : Fin 3) : BI.Storable (upEmb : UEmb _ 𝕄) (lodPay m c j) := by
  fin_cases j <;> (unfold lodPay; infer_instance)

/-! ## The schedule -/

def dutiesOf (c : Dev nD) : J → Finset (Dev nD)
  | .inl _ => {c}
  | .inr (.inl s) => if s = c then ∅ else {s}
  | .inr (.inr (.inl _)) => {c}
  | .inr (.inr (.inr _)) => Finset.univ.erase c
/-- A send cell is the duty of its own device. -/
theorem duties_S (c : Dev nD) (k : Fin 7) : dutiesOf c (jS k) = {c} := rfl
/-- Receive cell `s` is the duty of device `s`, and of nobody on `s` itself. -/
theorem duties_R (c : Dev nD) (s : Fin 8) : dutiesOf c (jR s) = if s = c then ∅ else {s} := rfl
/-- A load cell is the duty of its own device. -/
theorem duties_L (c : Dev nD) (j : Fin 3) : dutiesOf c (jL j) = {c} := rfl
/-- The barrier cell is the duty of all other devices. -/
theorem duties_B (c : Dev nD) : dutiesOf c jB = Finset.univ.erase c := rfl
def amountOf : J → ℕ
  | .inl _ => N
  | .inr (.inl _) => N
  | .inr (.inr (.inl j)) => NL j
  | .inr (.inr (.inr _)) => 1
def payOf (c : Dev nD) : J → Dev nD → sProp 𝕄
  | .inl k, _ => sAny c k
  | .inr (.inl s), _ => rGot m ρ c s
  | .inr (.inr (.inl j)), _ => lodPay m c j
  | .inr (.inr (.inr _)), d => rAny d c

/-- A send cell hands back the send row. -/
theorem payOf_S (c : Dev nD) (k : Fin 7) (d : Dev nD) : payOf m ρ c (jS k) d = sAny c k := rfl
/-- A receive cell hands over the row with the chunk received. -/
theorem payOf_R (c : Dev nD) (s : Fin 8) (d : Dev nD) : payOf m ρ c (jR s) d = rGot m ρ c s := rfl
/-- A load cell hands over what the local copy filled. -/
theorem payOf_L (c : Dev nD) (j : Fin 3) (d : Dev nD) : payOf m ρ c (jL j) d = lodPay m c j := rfl
/-- A barrier signal hands over the row on the signalling device that the other will fill. -/
theorem payOf_B (c d : Dev nD) : payOf m ρ c jB d = rAny d c := rfl

instance payOf_storable (c : Dev nD) (j : J) (d : Dev nD) : BI.Storable (upEmb : UEmb _ 𝕄) (payOf m ρ c j d) := by
  rcases j with k | s | j | u <;> (unfold payOf; infer_instance)

/-- Every duty's amount is positive. -/
theorem amountOf_pos (j : J) : 0 < amountOf j := by
  rcases j with k | s | j | u
  · exact N_pos
  · exact N_pos
  · exact NL_pos j
  · exact Nat.one_pos

/-- One round of each cell of each device's core. -/
def Rd : Rounds.Schedule (GSem nD τ sig) (Dev nD) 𝕄 where
  duties g r := if r = 0 ∧ g.1.2 = .tc then (match kind g.2 with | some j => dutiesOf g.1.1 j | none => ∅) else ∅
  unitless _ := False
  amount g _ _ := match kind g.2 with | some j => amountOf j | none => 1
  payload g _ d := match kind g.2 with | some j => payOf m ρ g.1.1 j d | none => iprop(emp)
  amount_pos g _ _ _ := by
    cases kind g.2 with
    | none => exact Nat.one_pos
    | some j => exact amountOf_pos j

instance Rd_payload_storable (g : GSem nD τ sig) (r : ℕ) (d : Dev nD) :
    BI.Storable (upEmb : UEmb _ 𝕄) ((Rd (F := F) m ρ).payload g r d) := by
  show BI.Storable upEmb (match kind g.2 with | some j => payOf m ρ g.1.1 j d | none => iprop(emp))
  cases kind g.2 with
  | none => infer_instance
  | some j => exact payOf_storable m ρ g.1.1 j d

section Sched
variable (c : Dev nD) (j : J)

/-- The duties of a cell's round 0. -/
theorem duties_eq : (Rd (F := F) m ρ).duties (kcell (c, j)) 0 = dutiesOf c j := by
  dsimp only [Rd]; rw [if_pos ⟨rfl, rfl⟩, kind_csem]
/-- No cell has a duty after round 0. -/
theorem duties_later (g : GSem nD τ sig) : ∀ r, 1 ≤ r → (Rd (F := F) m ρ).duties g r = ∅ :=
  fun r hr => by dsimp only [Rd]; rw [if_neg fun h => by omega]
/-- The amount of a duty of round 0. -/
theorem amount_eq (d : Dev nD) : (Rd (F := F) m ρ).amount (kcell (c, j)) 0 d = amountOf j := by
  dsimp only [Rd]; rw [kind_csem]
/-- What a duty of round 0 hands over. -/
theorem payload_eq (d : Dev nD) : (Rd (F := F) m ρ).payload (kcell (c, j)) 0 d = payOf m ρ c j d := by
  dsimp only [Rd]; rw [kind_csem]
/-- What a cell's round 0 counts up to. -/
theorem expect_eq : (Rd (F := F) m ρ).expect (kcell (c, j)) 0 = (dutiesOf c j).card * amountOf j := by
  unfold Schedule.expect Schedule.amountOf
  rw [duties_eq, Finset.sum_congr rfl fun d _ => amount_eq m ρ c j d, Finset.sum_const, smul_eq_mul]
/-- What the rest of a cell's round brings, no duty taken before. -/
theorem rest_eq : bigSep ((Rd (F := F) m ρ).duties (kcell (c, j)) 0 \ ∅) (fun d => (Rd (F := F) m ρ).payload (kcell (c, j)) 0 d)
    = bigSep (dutiesOf c j) (fun d => payOf m ρ c j d) := by
  rw [Finset.sdiff_empty, duties_eq]; exact bigSep_congr fun d _ => payload_eq m ρ c j d

end Sched

/-! ## What each device owes at launch; the levels of the waits -/

/-- What the signal to device `d`, and the transfer of send row `k`, pay. -/
def Ob (c d : Dev nD) : CellTallies nD τ sig Unit := if d = c then 0 else tallyAt (barCell d) () 1
def Os (c : Dev nD) (k : Fin 7) : CellTallies nD τ sig Unit := tallyAt (rcvCell (tgt c k) c) () N

/-- Owed after the first `k` transfers; before the signals to the devices from `d` on. -/
def oS (c : Dev nD) : ℕ → CellTallies nD τ sig Unit
  | 0 => 0
  | n + 1 => oS c n + Os c (Fin.ofNat 7 (6 - n))
def oB (c : Dev nD) : ℕ → CellTallies nD τ sig Unit
  | 0 => oS c 7
  | n + 1 => oB c n + Ob c (Fin.ofNat 8 (7 - n))
def O₀ (c : Dev nD) : CellTallies nD τ sig Unit := oB c 8

def L (g : GSem nD τ sig) : Finset Unit := if g.1.2 = .tc then {()} else ∅
/-- Barrier cells at 1, receive cells at 2, everything else at 0. -/
def lv (g : GSem nD τ sig) (_ : Unit) : ℕ := match kind g.2 with
  | some (.inr (.inl _)) => 2
  | some (.inr (.inr (.inr _))) => 1
  | _ => 0

/-- There are no levels outside the main core. -/
theorem L_of_ne (g : GSem nD τ sig) (h : g.1.2 ≠ .tc) : L g = ∅ := if_neg h
/-- Every semaphore of the main core has the one level index. -/
theorem L_tc (c : Dev nD) (sm : SemLoc sig) : L ((c : Thread nD τ), sm) = {()} := if_pos rfl

/-- The receive cells lie at level 2. -/
theorem lv_rcv (c : Dev nD) (s : Fin 8) : lv (rcvCell c s) () = 2 := by
  have h := kind_csem (jR s)
  show (match kind (csem (jR s)) with | some (.inr (.inl _)) => 2 | some (.inr (.inr (.inr _))) => 1 | _ => 0) = 2
  rw [h]
/-- The barrier cells lie at level 1. -/
theorem lv_bar (c : Dev nD) : lv (barCell c) () = 1 := by
  have h := kind_csem jB
  show (match kind (csem jB) with | some (.inr (.inl _)) => 2 | some (.inr (.inr (.inr _))) => 1 | _ => 0) = 1
  rw [h]

/-- What is positive in a sum of tallies is positive in one of them. -/
theorem add_pos_split {A B : CellTallies nD τ sig Unit} {g : GSem nD τ sig} {u : Unit} (h : 0 < (A + B) g u) : 0 < A g u ∨ 0 < B g u := by
  rw [Pi.add_apply, Finsupp.add_apply] at h; omega

/-- The transfers owe only to receive cells. -/
theorem oS_pos {c : Dev nD} {g : GSem nD τ sig} {u : Unit} : ∀ {n : ℕ}, 0 < oS c n g u → ∃ d s, g = rcvCell d s
  | 0, h => absurd h (Nat.lt_irrefl 0)
  | n + 1, h => by
    rcases add_pos_split h with h | h
    · exact oS_pos h
    · unfold Os at h; rw [tallyAt_apply] at h
      by_cases h' : g = rcvCell (tgt c (Fin.ofNat 7 (6 - n))) c ∧ u = ()
      · exact ⟨_, _, h'.1⟩
      · rw [if_neg h'] at h; exact absurd h (Nat.lt_irrefl 0)
/-- Signals and transfers owe only to receive and barrier cells. -/
theorem oB_pos {c : Dev nD} {g : GSem nD τ sig} {u : Unit} : ∀ {n : ℕ}, 0 < oB c n g u → (∃ d s, g = rcvCell d s) ∨ ∃ d, g = barCell d
  | 0, h => .inl (oS_pos h)
  | n + 1, h => by
    rcases add_pos_split h with h | h
    · exact oB_pos h
    · unfold Ob at h
      split at h
      · exact absurd h (Nat.lt_irrefl 0)
      · rw [tallyAt_apply] at h
        by_cases h' : g = barCell (Fin.ofNat 8 (7 - n)) ∧ u = ()
        · exact .inr ⟨_, h'.1⟩
        · rw [if_neg h'] at h; exact absurd h (Nat.lt_irrefl 0)

/-- A wait below everything owed is allowed: a staging or load wait at any time, -/
theorem mayWait_low (c : Dev nD) (sm : SemLoc sig) (hsm : lv ((c : Thread nD τ), sm) () = 0) (n : ℕ) :
    (levAts L lv : sProp 𝕄) ⊢ MayWait (c : Thread nD τ) sm () (oB c n) :=
  MayOwe.of_cut (L := L) (lev := lv) 0 (fun p hp => by rw [Finset.mem_singleton.mp hp, L_tc]; exact Finset.mem_singleton_self _)
    (fun g u hg => by rcases oB_pos hg with ⟨d, s, rfl⟩ | ⟨d, rfl⟩ <;> exact Finset.mem_singleton_self _)
    (fun p hp => by rw [Finset.mem_singleton.mp hp]; exact hsm.le)
    (fun g u hg => by
      rcases oB_pos hg with ⟨d, s, rfl⟩ | ⟨d, rfl⟩
      · rw [show u = () from rfl, lv_rcv]; decide
      · rw [show u = () from rfl, lv_bar]; decide)
/-- the barrier wait once only transfers are owed. -/
theorem mayWait_bar (c : Dev nD) : (levAts L lv : sProp 𝕄) ⊢ MayWait (c : Thread nD τ) (.reg barS) () (oS c 7) :=
  MayOwe.of_cut (L := L) (lev := lv) 1 (fun p hp => by rw [Finset.mem_singleton.mp hp, L_tc]; exact Finset.mem_singleton_self _)
    (fun g u hg => by obtain ⟨d, s, rfl⟩ := oS_pos hg; exact Finset.mem_singleton_self _)
    (fun p hp => by rw [Finset.mem_singleton.mp hp]; exact (lv_bar c).le)
    (fun g u hg => by obtain ⟨d, s, rfl⟩ := oS_pos hg; rw [show u = () from rfl, lv_rcv]; decide)

end Cert.Moe

end
-- ==== Proof.Steps.lean ====
/-
One lemma per kind of step of the kernel's body, each at a symbolic device and a symbolic row, for any float values.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows: the invariant of every cell of the mesh, and that every cell's round 0 is reached. -/
def records (K : Dev nD × J → ℕ) : sProp 𝕄 :=
  iprop((bigSep Finset.univ fun cj : Dev nD × J => cellInv ER (Rd m ρ) (K cj) (kcell cj))
    ∗ bigSep Finset.univ fun cj : Dev nD × J => reached ER (kcell cj) 0)

instance records_persistent (K : Dev nD × J → ℕ) : BI.Persistent (records m ρ K) := by unfold records; infer_instance

/-- Any one cell's invariant is among the records. -/
theorem inv_at (K : Dev nD × J → ℕ) (cj : Dev nD × J) : records m ρ K ⊢ cellInv ER (Rd m ρ) (K cj) (kcell cj) := by
  unfold records; exact sep_elim_left.trans (bigSep_elim (Finset.mem_univ cj))
/-- That any one cell has reached round 0 is among the records. -/
theorem reached_at (K : Dev nD × J → ℕ) (cj : Dev nD × J) : records m ρ K ⊢ reached ER (kcell cj) 0 := by
  unfold records; exact sep_elim_right.trans (bigSep_elim (Finset.mem_univ cj))

/-- What a device owes, whatever it has waited for. -/
def ow (c : Dev nD) (O : CellTallies nD τ sig Unit) : sProp 𝕄 := iprop(∃ W, owes (c : Thread nD τ) O W)

section Steps

variable (K : Dev nD × J → ℕ) (c : Dev nD)

/-! ### Conditions -/

/-- A conditional region followed by the rest: each branch on its own. -/
theorem wp_cond {α β : Type} {p : Prop} [Decidable p] {A : p → Prog (TpuEff nD τ sig (Elt F) Λ₀ .tc) α}
    {B : ¬ p → Prog (TpuEff nD τ sig (Elt F) Λ₀ .tc) α} {f : α → Prog (TpuEff nD τ sig (Elt F) Λ₀ .tc) β} {Q : β → sProp 𝕄} {X : sProp 𝕄}
    (hA : ∀ h, X ⊢ WP c (A h >>= f) Q) (hB : ∀ h, X ⊢ WP c (B h >>= f) Q) : X ⊢ WP c (dite p A B >>= f) Q := by
  by_cases h : p
  · rw [dif_pos h]; exact hA h
  · rw [dif_neg h]; exact hB h

/-- One step where `p` holds. -/
def condStep (p : Prop) [Decidable p] (e : p → TpuEff nD τ sig (Elt F) Λ₀ .tc PUnit) : Prog (TpuEff nD τ sig (Elt F) Λ₀ .tc) PUnit :=
  if h : p then Prog.op (e h) (fun _ => .ret ⟨⟩) else .ret ⟨⟩
/-- A receive where `p` holds: a wait, three reads, a write. -/
def condRecv {A B C : Type} (p : Prop) [Decidable p] (e : p → TpuEff nD τ sig (Elt F) Λ₀ .tc PUnit)
    (e₁ : p → TpuEff nD τ sig (Elt F) Λ₀ .tc A) (e₂ : p → TpuEff nD τ sig (Elt F) Λ₀ .tc B)
    (e₃ : p → TpuEff nD τ sig (Elt F) Λ₀ .tc C) (e₄ : p → A → B → TpuEff nD τ sig (Elt F) Λ₀ .tc PUnit) : Prog (TpuEff nD τ sig (Elt F) Λ₀ .tc) PUnit :=
  if h : p then Prog.op (e h) (fun _ => .op (e₁ h) fun x => .op (e₂ h) fun y => .op (e₃ h) fun _ => .op (e₄ h x y) fun _ => .ret ⟨⟩) else .ret ⟨⟩

/-- A conditional step whose two branches go on with the same rest, the rest taken out; the same for a receive. -/
theorem dite_rest {α : Type} {p : Prop} [Decidable p] (e : p → TpuEff nD τ sig (Elt F) Λ₀ .tc PUnit) (R : Prog (TpuEff nD τ sig (Elt F) Λ₀ .tc) α) :
    (if h : p then Prog.op (e h) (fun _ => R) else R) = condStep p e >>= fun _ => R := by
  unfold condStep; split <;> rfl
/-- A continuation after a conditional of five operations is the continuation of both branches. -/
theorem dite_rest₅ {α A B C : Type} {p : Prop} [Decidable p] (e : p → TpuEff nD τ sig (Elt F) Λ₀ .tc PUnit)
    (e₁ : p → TpuEff nD τ sig (Elt F) Λ₀ .tc A) (e₂ : p → TpuEff nD τ sig (Elt F) Λ₀ .tc B)
    (e₃ : p → TpuEff nD τ sig (Elt F) Λ₀ .tc C) (e₄ : p → A → B → TpuEff nD τ sig (Elt F) Λ₀ .tc PUnit)
    (R : Prog (TpuEff nD τ sig (Elt F) Λ₀ .tc) α) :
    (if h : p then Prog.op (e h) (fun _ => .op (e₁ h) fun x => .op (e₂ h) fun y => .op (e₃ h) fun _ => .op (e₄ h x y) fun _ => R) else R)
      = condRecv p e e₁ e₂ e₃ e₄ >>= fun _ => R := by
  unfold condRecv; split <;> rfl

/-! ### The barrier -/

/-- What the signal to `d` needs: its duty, and row `d` of the receive buffer to hand over; nothing at `d = c`. -/
def sigRes (d : Dev nD) : sProp 𝕄 := if d = c then iprop(emp) else iprop(dutyTok ER (barCell d) 0 c ∗ rAny c d)

/-- The conditional signal to device `d`. -/
theorem sig_step (d : Dev nD) {p : Prop} [Decidable p] (hp : p ↔ d ≠ c) (dv : p → Dev nD) (hdv : ∀ h, dv h = d) (n : ℤ) (hn : n = 1)
    (O O' : CellTallies nD τ sig Unit) (hO : O' = O + Ob c d) {β : Type}
    {f : PUnit → Prog (TpuEff nD τ sig (Elt F) Λ₀ .tc) β} {Q : β → sProp 𝕄} :
    iprop(records m ρ K ∗ ow c O' ∗ sigRes c d)
      ⊢ iprop((ow c O -∗ WP c (f ⟨⟩) Q)
        -∗ WP c (condStep p (fun h => .semSignal (dv h : Thread nD τ) barS n) >>= f) Q) := by
  subst hn
  unfold condStep
  refine BIClass.wand_intro ?_
  refine wp_cond c (fun h => ?_) (fun h => ?_)
  · have hne : d ≠ c := hp.mp h
    beta_reduce
    rw [hdv h]
    unfold sigRes ow
    rw [if_neg hne]
    simp only [Prog.bind_op, Prog.bind_ret]
    iintro ⟨⟨#HR, ⟨%W, HO⟩, Htok, Hrow⟩, Hk⟩
    iapply (Rounds.wp_signal 𝒱₀ ER (Rd m ρ) (c : Thread nD τ) none (dst := (d : Thread nD τ)) (κ := K (d, jB)) (W := W)
        (d := c) (by
          rw [show ((d : Thread nD τ), SemLoc.reg barS) = kcell (d, jB) from rfl, duties_eq]
          exact Finset.mem_erase.mpr ⟨hne.symm, Finset.mem_univ _⟩) (amount_eq m ρ d jB c) () (O₀ := O') O
        (by rw [hO]; unfold Ob; rw [if_neg hne]; rfl)) $$ [HO Htok Hrow]
    · isplitr; · iapply (inv_at m ρ K (d, jB)); iexact HR
      isplitl [HO]; · iexact HO
      isplitl [Htok]; · iexact Htok
      isplitl [Hrow]
      · rw [show ((d : Thread nD τ), SemLoc.reg barS) = kcell (d, jB) from rfl, payload_eq, payOf_B]; iexact Hrow
      · iapply (reached_at m ρ K (d, jB)); iexact HR
    iintro HO
    iapply Hk
    iexists W; iexact HO
  · have he : d = c := by by_contra hne; exact h (hp.mpr hne)
    simp only [Prog.bind_ret]
    rw [show O' = O from by rw [hO]; unfold Ob; rw [if_pos he, add_zero]]
    iintro ⟨⟨-, HO, -⟩, Hk⟩
    iapply Hk; iexact HO

/-! ### Waits -/

/-- A wait for all of the one round of a cell: the payloads come, and the cell is closed at zero. -/
theorem wait_step (j : J) {w : TpuEff nD τ sig (Elt F) Λ₀ .tc PUnit} {k' : ℕ}
    (hw : ∀ K' : PUnit → sProp 𝕄, wpE (defs₀ (F := F)) 𝒱₀ (c : Thread nD τ) none Set.univ w K' = waitSpec (c : Thread nD τ) Set.univ (csem j) k' K')
    (hk : k' = (dutiesOf c j).card * amountOf j) (O : CellTallies nD τ sig Unit)
    (hM : (levAts L lv : sProp 𝕄) ⊢ MayWait (c : Thread nD τ) (csem j) () O)
    {α : Type} {k : PUnit → Prog (TpuEff nD τ sig (Elt F) Λ₀ .tc) α} {Q : α → sProp 𝕄} :
    iprop(records m ρ K ∗ levAts L lv ∗ cred (tallyAt (kcell (c, j)) () k') ∗ ow c O ∗ atPos ER (kcell (c, j)) 0 ∅ 0)
      ⊢ iprop(((ow c O ∗ semVal (kcell (c, j)) 0 ∗ bigSep (dutiesOf c j) (fun d => payOf m ρ c j d)) -∗ WP c (k ⟨⟩) Q)
        -∗ WP c (.op w k) Q) := by
  unfold ow
  iintro ⟨#HR, #Hlev, Hc, ⟨%W, HO⟩, Hat⟩ Hk
  iapply (Rounds.wp_wait_rest_token 𝒱₀ ER (Rd m ρ) (c : Thread nD τ) none (κ := K (c, j)) hw (Set.mem_univ _) () (O := O) (W := W)
      (R := 0) (m := 0) (T := ∅) (by rw [Nat.zero_add, hk]; exact (expect_eq m ρ c j).symm)) $$ [Hc HO Hat]
  · isplitr; · iapply (inv_at m ρ K (c, j)); iexact HR
    isplitl [Hc]; · iexact Hc
    isplitl [HO]; · iexact HO
    isplitr; · iapply hM; iexact Hlev
    iexact Hat
  iintro ⟨HO, Hat, -, Hpay⟩
  ihave Hp := (Entails.of_eq (rest_eq m ρ c j)) $$ Hpay
  imod (Rounds.cell_close ER (Rd m ρ) (Set.mem_univ (K (c, j))) (fun h => h) (R := 0 + 1) (duties_later m ρ (kcell (c, j)))) $$ [Hat] with Hz
  · isplitr; · iapply (inv_at m ρ K (c, j)); iexact HR
    iexact Hat
  iapply Hk
  isplitl [HO]; · iexists _; iexact HO
  isplitl [Hz]; · iexact Hz
  iexact Hp

/-! ### The sends -/

/-- The chunk as the transfer carries it is the chunk as it was stored and as it will be read. -/
theorem landed_read (k : Fin 7) (s : Fin 8) (fs : sM.view.ty.Contents (Elt F)) (fd : rM.view.ty.Contents (Elt F)) :
    (rM.access (rR s)).read (Elt F) ((rRow s).view.write (Elt F) fd ((sRow k).view.read (Elt F) fs) Finset.univ)
      = (sM.access (sR k)).read (Elt F) fs := by
  funext y
  have h := congrFun (View.read_write_univ (v := (rRow s).view) fd ((sRow k).view.read (Elt F) fs)) ((Shape.reshapeEquiv (squeezes_S1x64x512_S64x512).numel_eq).symm y)
  have h1 : ∀ g : rM.view.ty.Contents (Elt F), ∀ z, (rRow s).view.read (Elt F) g z = (rM.access (rR s)).read (Elt F) g (Shape.reshapeEquiv (squeezes_S1x64x512_S64x512).numel_eq z) := fun _ _ => rfl
  have h2 : ∀ z, (sRow k).view.read (Elt F) fs z = (sM.access (sR k)).read (Elt F) fs (Shape.reshapeEquiv (squeezes_S1x64x512_S64x512).numel_eq z) := fun _ => rfl
  rw [h1, h2, Equiv.apply_symm_apply] at h
  exact h

/-- What sending row `k` needs: the row, its landing row on the target, both duties. -/
def txRes (k : Fin 7) : sProp 𝕄 :=
  iprop(sAny c k ∗ rAny (tgt c k) c ∗ dutyTok ER (sndCell c k) 0 c ∗ dutyTok ER (rcvCell (tgt c k) c) 0 c)

/-- The transfer of send row `k`, holding the chunk. -/
theorem send_step (k : Fin 7) (n : Dev nD) (hn : n = tgt c k) {src : Memref sig .tc .vmem S64x512 .bf16} (hs : src = sRow k)
    {dst : Memref sig (Dev.tc n : Thread nD τ).2.kind .vmem S64x512 .bf16} (hd : dst = rRow c) {sS sem : DmaSem sig} (hsS : sS = sndS k) (hsm : sem = rcvS c)
    {hsc : dst.view.ref.isScScratch = false} {hsrc : src.view.WordExact} {hdst : dst.view.WordExact}
    {hsem : DmaTarget.Typed .vmem (.dma sem) (.remote (Dev.tc n : Thread nD τ) dst (.dma sS) hsc)}
    (O O' : CellTallies nD τ sig Unit) (hO : O' = O + Os c k)
    {fs : Buf (Elt F) ((c : Thread nD τ).loc cc0_scratch0)} (hfs : (sM.access (sR k)).read (Elt F) fs = chunk m ρ c (tgt c k))
    {α : Type} {Q : α → sProp 𝕄} {kk : PUnit → Prog (TpuEff nD τ sig (Elt F) Λ₀ .tc) α} :
    iprop(records m ρ K ∗ ow c O' ∗ sPts c k fs ∗ rAny (tgt c k) c ∗ dutyTok ER (sndCell c k) 0 c ∗ dutyTok ER (rcvCell (tgt c k) c) 0 c)
      ⊢ iprop(((cred (tallyAt (sndCell c k) () N) ∗ ow c O) -∗ WP c (kk ⟨⟩) Q)
        -∗ WP c (.op (.enqueueDma src (.remote (Dev.tc n : Thread nD τ) dst (.dma sS) hsc) (.dma sem) hsrc hdst hsem) kk) Q) := by
  subst hn; subst hs; subst hd; subst hsS; subst hsm
  unfold ow rAny
  iintro ⟨#HR, ⟨%W, HO⟩, Hs, ⟨%fn, Hd⟩, Ht1, Ht2⟩ Hk
  iapply (Rounds.wp_send_pointsTo 𝒱₀ ER (Rd m ρ) (c : Thread nD τ) none (c' := (Dev.tc (tgt c k) : Thread nD τ)) (src := sRow k) (dst := rRow c)
      (sS := .dma (sndS k)) (sem := .dma (rcvS c)) (q := fullShare) (fs := fs) (fd := fn) (κ₁ := K (c, jS k)) (κ₂ := K (tgt c k, jR c))
      (r₁ := 0) (r₂ := 0) (d₁ := c) (d₂ := c)
      (by rw [show ((c : Thread nD τ), SemLoc.dma (sndS k)) = kcell (c, jS k) from rfl, duties_eq]; exact Finset.mem_singleton_self _)
      (by rw [show ((tgt c k : Thread nD τ), SemLoc.dma (rcvS c)) = kcell (tgt c k, jR c) from rfl, duties_eq]
          rw [duties_R, if_neg (tgt_ne c k).symm]; exact Finset.mem_singleton_self _)
      () () N rfl (amount_eq m ρ c (jS k) c) (amount_eq m ρ (tgt c k) (jR c) c) O hO (W := W)
      (by rw [show ((c : Thread nD τ), SemLoc.dma (sndS k)) = kcell (c, jS k) from rfl, payload_eq, sRow_set]
          show _ ⊢ sAny c k
          unfold sAny sPts
          iintro H; iexists fs; iexact H)
      (by rw [show ((tgt c k : Thread nD τ), SemLoc.dma (rcvS c)) = kcell (tgt c k, jR c) from rfl, payload_eq, rRow_set]
          show _ ⊢ rGot m ρ (tgt c k) c
          unfold rGot rPts
          iintro H
          iexists ((rRow c).view.write (Elt F) fn ((sRow k).view.read (Elt F) fs) Finset.univ)
          isplitr
          · ipureintro; exact (landed_read k c fs fn).trans hfs
          · iexact H)) $$ [HO Hs Hd Ht1 Ht2]
  · isplitr; · iapply (inv_at m ρ K (c, jS k)); iexact HR
    isplitr; · iapply (inv_at m ρ K (tgt c k, jR c)); iexact HR
    isplitl [Hs]; · rw [sRow_set]; unfold sPts; iexact Hs
    isplitl [Hd]; · rw [rRow_set]; unfold rPts; iexact Hd
    isplitl [HO]; · iexact HO
    isplitl [Ht1]; · iexact Ht1
    isplitr; · iapply (reached_at m ρ K (c, jS k)); iexact HR
    isplitl [Ht2]; · iexact Ht2
    iapply (reached_at m ρ K (tgt c k, jR c)); iexact HR
  iintro ⟨Hc, HO⟩
  iapply Hk
  isplitl [Hc]; · iexact Hc
  iexists W; iexact HO

/-- Row `k`'s chunk stored in the send buffer (the printed program reads the row first) and sent. -/
theorem row_step (k : Fin 7) (n : Dev nD) (hn : n = tgt c k) {off : Fin 3 → ℕ} (hoff : off = ![k.val, 0, 0]) {inb : ∀ a, off a + S1x64x512.size a ≤ S7x64x512.size a} {src : Memref sig .tc .vmem S64x512 .bf16} (hs : src = sRow k)
    {dst : Memref sig (Dev.tc n : Thread nD τ).2.kind .vmem S64x512 .bf16} (hd : dst = rRow c) {sS sem : DmaSem sig} (hsS : sS = sndS k) (hsm : sem = rcvS c)
    {hsc : dst.view.ref.isScScratch = false} {hsrc : src.view.WordExact} {hdst : dst.view.WordExact}
    {hsem : DmaTarget.Typed .vmem (.dma sem) (.remote (Dev.tc n : Thread nD τ) dst (.dma sS) hsc)}
    (O O' : CellTallies nD τ sig Unit) (hO : O' = O + Os c k)
    {pay : FVec F S1x64x512 .bf16} (hpay : pay = chunk m ρ c (tgt c k))
    {hl : sM.view.LoadsAt (Rect.unit (s := S7x64x512) off S1x64x512.size inb).toLoadRect}
    {hx : (sM.access (Rect.unit (s := S7x64x512) off S1x64x512.size inb)).Stores Finset.univ}
    {hm : Finset.univ = Finset.univ ∨ ∀ a, (Rect.unit (s := S7x64x512) off S1x64x512.size inb).stride a = 1}
    {α : Type} {Q : α → sProp 𝕄} {kk : PUnit → Prog (TpuEff nD τ sig (Elt F) Λ₀ .tc) α} :
    iprop(records m ρ K ∗ ow c O' ∗ txRes c k)
      ⊢ iprop(((cred (tallyAt (sndCell c k) () N) ∗ ow c O) -∗ WP c (kk ⟨⟩) Q)
        -∗ WP c (.op (.load sM (Rect.unit (s := S7x64x512) off S1x64x512.size inb).toLoadRect hl) fun _ =>
            .op (.store sM (Rect.unit (s := S7x64x512) off S1x64x512.size inb) pay Finset.univ hx hm) fun _ =>
            .op (.enqueueDma src (.remote (Dev.tc n : Thread nD τ) dst (.dma sS) hsc) (.dma sem) hsrc hdst hsem) kk) Q) := by
  subst hoff
  subst hpay
  unfold txRes sAny sPts
  iintro ⟨#HR, HO, ⟨%f, Hs⟩, Hd, Ht1, Ht2⟩ Hk
  iapply (wp_load_rect 𝒱₀ (c : Thread nD τ) none Set.univ (m := sM) (r := sR k) (S := (sM.access (sR k)).set) (Finset.Subset.refl _)) $$ Hs; iintro Hs
  iapply (wp_store 𝒱₀ (c : Thread nD τ) none Set.univ (m := sM) (r := sR k) (Mk := Finset.univ) (S := (sM.access (sR k)).set) (Finset.Subset.refl _)) $$ Hs; iintro Hs
  have hfs : (sM.access (sR k)).read (Elt F) ((sM.access (sR k)).write (Elt F) f (chunk m ρ c (tgt c k)) Finset.univ) = chunk m ρ c (tgt c k) :=
    View.read_write_univ (v := sM.access (sR k)) f _
  generalize (sM.access (sR k)).write (Elt F) f (chunk m ρ c (tgt c k)) Finset.univ = fs at hfs
  iapply (send_step m ρ K c k n hn hs hd hsS hsm O O' hO (fs := fs) hfs) $$ [HO Hs Hd Ht1 Ht2]
  · isplitr; · iexact HR
    isplitl [HO]; · iexact HO
    isplitl [Hs]; · unfold sPts; iexact Hs
    isplitl [Hd]; · iexact Hd
    isplitl [Ht1] <;> iassumption
  iexact Hk

/-! ### The receives -/

/-- What device `c` holds for row `s` of its receive buffer: its position in the cell, and the credit to wait for
    (at `s = c` the row itself, which nobody writes). -/
def rxRes (s : Fin 8) : sProp 𝕄 :=
  iprop(atPos ER (rcvCell c s) 0 ∅ 0 ∗ (if s = c then rAny c s else cred (tallyAt (rcvCell c s) () N)))

/-- Two zero offsets are the zero function. -/
theorem hz2 : (![0, 0] : Fin 2 → Nat) = fun _ => 0 := funext fun a => by fin_cases a <;> rfl

abbrev oR : Rect S64x512 := Rect.unit (s := S64x512) ![0, 0] S64x512.size inb_S64x512_S64x512_0_0

/-- The result's staging buffer. -/
def oPts (a : (cc0_stg2_0 : Ref sig .tc).ty.Contents (Elt F)) : sProp 𝕄 := (c : Thread nD τ).loc cc0_stg2_0 ↦{fullShare} a

/-- The conditional receive of row `s`: wait, read the result so far and the row, write the sum. -/
theorem recv_step (s : Fin 8) {p : Prop} [Decidable p] (hp : p ↔ s ≠ c) {sem : DmaSem sig} (hsm : sem = rcvS s)
    {v v' : Memref sig .tc .vmem S64x512 .bf16} (hv : v' = rRow s) {hv1 : v.view.WordExact} {hv2 : v'.view.WordExact}
    {off : Fin 3 → ℕ} (hoff : off = ![s.val, 0, 0]) {inb : ∀ a, off a + S1x64x512.size a ≤ S8x64x512.size a} {hl1 hl3 : oM.view.LoadsAt oR.toLoadRect} {hl2 : rM.view.LoadsAt (Rect.unit (s := S8x64x512) off S1x64x512.size inb).toLoadRect}
    {hx : (oM.access oR).Stores Finset.univ} {hm : Finset.univ = Finset.univ ∨ ∀ a, oR.stride a = 1}
    {pay : Vec F S64x512 .f32 → Vec F S1x64x512 .bf16 → FVec F S64x512 .f32} (hpay : pay = k0_pay20 (F := F))
    (a : (cc0_stg2_0 : Ref sig .tc).ty.Contents (Elt F))
    {β : Type} {f : PUnit → Prog (TpuEff nD τ sig (Elt F) Λ₀ .tc) β} {Q : β → sProp 𝕄} :
    iprop(records m ρ K ∗ levAts L lv ∗ ow c 0 ∗ rxRes c s ∗ oPts c a)
      ⊢ iprop(((ow c 0 ∗ semVal (rcvCell c s) 0 ∗ rAny c s ∗ oPts c (accStep m ρ c s a)) -∗ WP c (f ⟨⟩) Q)
        -∗ WP c (condRecv p (fun _ => .waitDma2 sem v v' hv1 hv2) (fun _ => .load oM oR.toLoadRect hl1)
            (fun _ => .load rM (Rect.unit (s := S8x64x512) off S1x64x512.size inb).toLoadRect hl2)
            (fun _ => .load oM oR.toLoadRect hl3) (fun _ x y => .store oM oR (pay x y) Finset.univ hx hm) >>= f) Q) := by
  unfold condRecv
  subst hsm; subst hv; subst hoff; subst hpay
  refine BIClass.wand_intro ?_
  refine wp_cond c (fun h => ?_) (fun h => ?_)
  · have hne : s ≠ c := hp.mp h
    unfold rxRes
    rw [if_neg hne]
    simp only [Prog.bind_op, Prog.bind_ret]
    iintro ⟨⟨#HR, #Hlev, HO, ⟨Hat, Hc⟩, Ho⟩, Hk⟩
    iapply (wait_step m ρ K c (jR s) (wpE_waitDma2_eq 𝒱₀ (c : Thread nD τ) none Set.univ)
      (by rw [duties_R, if_neg hne, Finset.card_singleton, Nat.one_mul]; rfl) 0 (by rw [MayWait_zero]; iintro -; iempintro)) $$ [Hc HO Hat]
    · isplitr; · iexact HR
      isplitr; · iexact Hlev
      isplitl [Hc]; · iexact Hc
      isplitl [HO]; · iexact HO
      iexact Hat
    iintro ⟨HO, Hz, Hp⟩
    ihave Hp := (Entails.of_eq (show bigSep (dutiesOf c (jR s)) (fun d => payOf m ρ c (jR s) d) = rGot m ρ c s from by
      rw [duties_R, if_neg hne, bigSep_singleton]; rfl)) $$ Hp
    unfold rGot rPts oPts
    icases Hp with ⟨%g, %hg, Hr⟩
    iapply (wp_load 𝒱₀ (c : Thread nD τ) none Set.univ (m := oM) (Finset.subset_univ _)) $$ Ho; iintro Ho
    rw [show oM.view.readAt (Elt F) oR.toLoadRect a = a from Memref.readAt_unit_zero (Elt F) cc0_stg2_0 hz2 _ a]
    iapply (wp_load_rect 𝒱₀ (c : Thread nD τ) none Set.univ (m := rM) (r := rR s) (S := (rM.access (rR s)).set) (Finset.Subset.refl _)) $$ Hr; iintro Hr
    rw [hg]
    iapply (wp_load 𝒱₀ (c : Thread nD τ) none Set.univ (m := oM) (Finset.subset_univ _)) $$ Ho; iintro Ho
    iapply (wp_store 𝒱₀ (c : Thread nD τ) none Set.univ (m := oM) (r := oR) (Mk := Finset.univ) (Finset.subset_univ _)) $$ Ho; iintro Ho
    rw [show (oM.access oR).write (Elt F) a (k0_pay20 a (chunk m ρ s c)) Finset.univ = k0_pay20 a (chunk m ρ s c) from
      Memref.write_access_unit_zero_univ (Elt F) cc0_stg2_0 hz2 _ a _]
    iapply Hk
    isplitl [HO]; · iexact HO
    isplitl [Hz]; · iexact Hz
    isplitl [Hr]; · unfold rAny rPts; iexists g; iexact Hr
    unfold accStep; rw [if_neg hne]; iexact Ho
  · have he : s = c := by by_contra hne; exact h (hp.mpr hne)
    subst he
    unfold rxRes
    rw [if_pos rfl]
    simp only [Prog.bind_ret]
    iintro ⟨⟨#HR, #Hlev, HO, ⟨Hat, Hrow⟩, Ho⟩, Hk⟩
    imod (Rounds.cell_close ER (Rd m ρ) (Set.mem_univ (K (s, jR s))) (fun h => h) (R := 0) (g := kcell (s, jR s)) (fun r _ => by
        rcases Nat.eq_zero_or_pos r with hr | hr
        · rw [hr, duties_eq, duties_R]; exact if_pos rfl
        · exact duties_later m ρ _ r hr)) $$ [Hat] with Hz
    · isplitr; · iapply (inv_at m ρ K (s, jR s)); iexact HR
      iexact Hat
    iapply Hk
    isplitl [HO]; · iexact HO
    isplitl [Hz]; · iexact Hz
    isplitl [Hrow]; · iexact Hrow
    unfold accStep; rw [if_pos rfl]; iexact Ho

/-! ### Loads of chunk rows -/

/-- Rows of chunk `t` of the scaled input, the product, the input: read at offsets equal to the chunk's. -/
theorem load_y (t : Dev nD) {off : Fin 2 → ℕ} {inb : ∀ a, off a + S64x256.size a ≤ S512x256.size a} (h : off = ![64 * t.val, 0])
    {b : Buf (Elt F) ((c : Thread nD τ).loc cc0_scratch3)}
    {hl : yM.view.LoadsAt (Rect.unit (s := S512x256) off S64x256.size inb).toLoadRect}
    {α : Type} {Q : α → sProp 𝕄} {kk : (S64x256.Idx → Elt F .bf16) → Prog (TpuEff nD τ sig (Elt F) Λ₀ .tc) α} :
    ((c : Thread nD τ).loc cc0_scratch3 ↦{fullShare} b)
      ⊢ iprop((((c : Thread nD τ).loc cc0_scratch3 ↦{fullShare} b) -∗ WP c (kk (yM.view.readAt (Elt F) (yR t).toLoadRect b)) Q)
        -∗ WP c (.op (.load yM (Rect.unit (s := S512x256) off S64x256.size inb).toLoadRect hl) kk) Q) := by
  subst h
  exact wp_load 𝒱₀ (c : Thread nD τ) none Set.univ (m := yM) (Finset.subset_univ _)
/-- A load of chunk `t` of the partial product. -/
theorem load_d (t : Dev nD) {off : Fin 2 → ℕ} {inb : ∀ a, off a + S64x512.size a ≤ S512x512.size a} (h : off = ![64 * t.val, 0])
    {b : Buf (Elt F) ((c : Thread nD τ).loc cc0_scratch2)}
    {hl : dM.view.LoadsAt (Rect.unit (s := S512x512) off S64x512.size inb).toLoadRect}
    {α : Type} {Q : α → sProp 𝕄} {kk : (S64x512.Idx → Elt F .f32) → Prog (TpuEff nD τ sig (Elt F) Λ₀ .tc) α} :
    ((c : Thread nD τ).loc cc0_scratch2 ↦{fullShare} b)
      ⊢ iprop((((c : Thread nD τ).loc cc0_scratch2 ↦{fullShare} b) -∗ WP c (kk (dM.view.readAt (Elt F) (dR t).toLoadRect b)) Q)
        -∗ WP c (.op (.load dM (Rect.unit (s := S512x512) off S64x512.size inb).toLoadRect hl) kk) Q) := by
  subst h
  exact wp_load 𝒱₀ (c : Thread nD τ) none Set.univ (m := dM) (Finset.subset_univ _)
/-- A load of chunk `t` of the input. -/
theorem load_x (t : Dev nD) {off : Fin 2 → ℕ} {inb : ∀ a, off a + S64x256.size a ≤ S512x256.size a} (h : off = ![64 * t.val, 0])
    {b : Buf (Elt F) ((c : Thread nD τ).loc cc0_scratch4)}
    {hl : xV.view.LoadsAt (Rect.unit (s := S512x256) off S64x256.size inb).toLoadRect}
    {α : Type} {Q : α → sProp 𝕄} {kk : (S64x256.Idx → Elt F .f32) → Prog (TpuEff nD τ sig (Elt F) Λ₀ .tc) α} :
    ((c : Thread nD τ).loc cc0_scratch4 ↦{fullShare} b)
      ⊢ iprop((((c : Thread nD τ).loc cc0_scratch4 ↦{fullShare} b) -∗ WP c (kk (xV.view.readAt (Elt F) (yR t).toLoadRect b)) Q)
        -∗ WP c (.op (.load xV (Rect.unit (s := S512x256) off S64x256.size inb).toLoadRect hl) kk) Q) := by
  subst h
  exact wp_load 𝒱₀ (c : Thread nD τ) none Set.univ (m := xV) (Finset.subset_univ _)

/-- The kernel's offsets of the chunk it sends from row `k`. -/
theorem off1_eq (k : Fin 7) : k0_off1 c (BitVec.ofNat 32 k.val) = ![64 * (tgt c k).val, 0] := by revert c k; decide +kernel
/-- The same of the second offset. -/
theorem off2_eq (k : Fin 7) : k0_off2 c (BitVec.ofNat 32 k.val) = ![64 * (tgt c k).val, 0] := by revert c k; decide +kernel

/-- A send row as the kernel names it. -/
theorem srcRow_eq (k : Fin 7) {off : Fin 3 → ℕ} (h : off = ![k.val, 0, 0]) (inb : ∀ a, off a + S1x64x512.size a ≤ S7x64x512.size a) :
    (sM.slice (Rect.unit (s := S7x64x512) off S1x64x512.size inb) (fun _ => rfl)).squeeze S64x512 squeezes_S1x64x512_S64x512 = sRow k := by
  subst h; rfl
/-- The row and the cell on the target that the kernel names are row and cell `c`. -/
theorem dstRow_eq {off : Fin 3 → ℕ} (h : off = ![c.val, 0, 0]) (inb : ∀ a, off a + S1x64x512.size a ≤ S8x64x512.size a) :
    (rM.slice (Rect.unit (s := S8x64x512) off S1x64x512.size inb) (fun _ => rfl)).squeeze S64x512 squeezes_S1x64x512_S64x512 = rRow c := by
  subst h; rfl
/-- The receive semaphore that the kernel names on the target is that of row `c`. -/
theorem rcvSem_eq {off : Fin 1 → ℕ} (h : off = ![c.val]) (inb : ∀ a, off a + S1.size a ≤ S8.size a) :
    ((cc0_scratch8.slice (Rect.unit (s := S8) off S1.size inb)).squeeze S_ squeezes_S1_S_).sem = rcvS c := by
  subst h; revert c; decide

end Steps

end Cert.Moe

end
-- ==== Proof.PartA.lean ====
/-
The parts of the body up to the two stored operands: the local copies, the barrier, the first loads.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × J → ℕ) (c : Dev nD)

/-- The load cells lie at level 0. -/
theorem lv_lod (j : Fin 3) : lv (lodCell c j) () = 0 := by
  have h := kind_csem (jL j)
  show (match kind (csem (jL j)) with | some (.inr (.inl _)) => 2 | some (.inr (.inr (.inr _))) => 1 | _ => 0) = 0
  rw [h]

/-! ### The local copies -/

/-- What the local copy `j` starts from: its source, its destination at any contents, its duty. -/
def lodIn : Fin 3 → sProp 𝕄
  | 0 => iprop(((c : Thread nD τ).loc main_arg0 ↦{fullShare} m ((c : Thread nD τ).loc main_arg0)) ∗ ∃ f, (c : Thread nD τ).loc cc0_scratch4 ↦{fullShare} f)
  | 1 => iprop(((c : Thread nD τ).loc main_arg3 ↦{fullShare} m ((c : Thread nD τ).loc main_arg3)) ∗ ∃ f, (c : Thread nD τ).loc cc0_scratch5 ↦{fullShare} f)
  | 2 => iprop(((c : Thread nD τ).loc main_arg4 ↦{fullShare} m ((c : Thread nD τ).loc main_arg4)) ∗ ∃ f, (c : Thread nD τ).loc cc0_scratch6 ↦{fullShare} f)

/-- The copy `j` of a whole buffer to a whole buffer, its payload being what the schedule says. -/
theorem copy_step (j : Fin 3) {s : Shape} {e : EltTy}
    {src : Memref sig .tc .hbm s e} {dst : Memref sig .tc .vmem s e} (hs : src.view.set = Finset.univ) (hd : dst.view.set = Finset.univ)
    {sem : DmaSem sig} (hsem : sem = lodS j) {hsrc : src.view.WordExact} {hdst : dst.view.WordExact}
    {hty : DmaTarget.Typed .hbm (.dma sem) (DmaTarget.here (nD := nD) (p := (Proc.tc : Proc τ)) dst)} (hN : dst.view.dmaCredit = NL j)
    {fs : Buf (Elt F) (src.view.loc (c : Thread nD τ))} {fd : Buf (Elt F) (dst.view.loc (c : Thread nD τ))}
    (hpay : iprop((dst.view.loc (c : Thread nD τ) ↦{fullShare} (dst.view.write (Elt F) fd (src.view.read (Elt F) fs) Finset.univ))
              ∗ (src.view.loc (c : Thread nD τ) ↦{fullShare} fs)) ⊢ lodPay m c j)
    {α : Type} {Q : α → sProp 𝕄} {kk : PUnit → Prog (TpuEff nD τ sig (Elt F) Λ₀ .tc) α} :
    iprop(records m ρ K ∗ (src.view.loc (c : Thread nD τ) ↦{fullShare} fs) ∗ (dst.view.loc (c : Thread nD τ) ↦{fullShare} fd) ∗ dutyTok ER (lodCell c j) 0 c)
      ⊢ iprop((cred (tallyAt (lodCell c j) () (NL j)) -∗ WP c (kk ⟨⟩) Q)
        -∗ WP c (.op (.enqueueDma src (.here dst) (.dma sem) hsrc hdst hty) kk) Q) := by
  subst hsem
  have h := (Rounds.wp_copy_pointsTo 𝒱₀ ER (Rd m ρ) (c : Thread nD τ) none (defs := defs₀ (F := F)) (src := src) (dst := dst) (sem := .dma (lodS j)) (hsrc := hsrc) (hdst := hdst) (hsem := hty)
      (k := kk) (Q := Q) (Es := Set.univ) (Γ := [])
      (q := fullShare) (fs := fs) (fd := fd) (r := 0) (d := c) (κ := K (c, jL j))
      (by rw [show ((c : Thread nD τ), SemLoc.dma (lodS j)) = kcell (c, jL j) from rfl, duties_eq]; exact Finset.mem_singleton_self _)
      () (NL j) hN (amount_eq m ρ c (jL j) c)
      (by rw [show ((c : Thread nD τ), SemLoc.dma (lodS j)) = kcell (c, jL j) from rfl, payload_eq, payOf_L, hs, hd]; exact hpay))
  rw [hs, hd] at h
  iintro ⟨#HR, Hs, Hd, Ht⟩ Hk
  iapply h $$ [Hs Hd Ht]
  · isplitr; · iapply (inv_at m ρ K (c, jL j)); iexact HR
    isplitl [Hs]; · iexact Hs
    isplitl [Hd]; · iexact Hd
    isplitl [Ht]; · iexact Ht
    iapply (reached_at m ρ K (c, jL j)); iexact HR
  iexact Hk

/-- What one more signal, one more transfer, leaves owed. -/
theorem oB_succ (n : ℕ) (d : Dev nD) (h : Fin.ofNat 8 (7 - n) = d) : oB c (n + 1) = oB c n + Ob c d := by subst h; rfl
/-- What one more transfer leaves owed. -/
theorem oS_succ (n : ℕ) (k : Fin 7) (h : Fin.ofNat 7 (6 - n) = k) : oS c (n + 1) = oS c n + Os c k := by subst h; rfl

/-- The kernel's eight conditions before its signals: the target is another device. -/
theorem cond_bar : (∀ c : Dev nD, (k0_cond1 c = 1#1 ↔ (0 : Dev nD) ≠ c)) ∧ (∀ c : Dev nD, (k0_cond2 c = 1#1 ↔ (1 : Dev nD) ≠ c))
    ∧ (∀ c : Dev nD, (k0_cond3 c = 1#1 ↔ (2 : Dev nD) ≠ c)) ∧ (∀ c : Dev nD, (k0_cond4 c = 1#1 ↔ (3 : Dev nD) ≠ c))
    ∧ (∀ c : Dev nD, (k0_cond5 c = 1#1 ↔ (4 : Dev nD) ≠ c)) ∧ (∀ c : Dev nD, (k0_cond6 c = 1#1 ↔ (5 : Dev nD) ≠ c))
    ∧ (∀ c : Dev nD, (k0_cond7 c = 1#1 ↔ (6 : Dev nD) ≠ c)) ∧ (∀ c : Dev nD, (k0_cond8 c = 1#1 ↔ (7 : Dev nD) ≠ c)) := by decide +kernel

abbrev P1 : Prog (TpuEff nD τ sig (Elt F) Λ₀ .tc) (Σ' (d0 : Dev nD) (v2 : BitVec 32), Sems sig S_) :=
  k0_part1 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9

/-- The first part: the three local copies start, the signals to devices 0 to 5. -/
theorem part1_spec {α : Type} {Q : α → sProp 𝕄} {kk : (Σ' (d0 : Dev nD) (v2 : BitVec 32), Sems sig S_) → Prog (TpuEff nD τ sig (Elt F) Λ₀ .tc) α} :
    iprop(records m ρ K ∗ ow c (oB c 8) ∗ (lodIn m c 0 ∗ lodIn m c 1 ∗ lodIn m c 2)
        ∗ (dutyTok ER (lodCell c 0) 0 c ∗ dutyTok ER (lodCell c 1) 0 c ∗ dutyTok ER (lodCell c 2) 0 c)
        ∗ sigRes c 0 ∗ sigRes c 1 ∗ sigRes c 2 ∗ sigRes c 3 ∗ sigRes c 4 ∗ sigRes c 5)
      ⊢ iprop(((ow c (oB c 2) ∗ cred (tallyAt (lodCell c 0) () (NL 0)) ∗ cred (tallyAt (lodCell c 1) () (NL 1)) ∗ cred (tallyAt (lodCell c 2) () (NL 2)))
            -∗ WP c (kk ⟨c, w2 c, SemArray.scalar (sig.barrier 0 rfl)⟩) Q)
        -∗ WP c (P1 >>= kk) Q) := by
  unfold P1
  simp only [k0_part1_eq_skeleton]
  unfold k0_part1_skel
  simp -zetaHave only [semSignalWord, semWaitWord, Prog.lift, Prog.bind_op, Prog.bind_ret, Prog.pure_eq_ret]
  simp -zetaHave only [dite_rest]
  simp only [Prog.bind_op, Prog.bind_ret, wp_deviceId, Prog.bind_assoc]

  unfold lodIn
  iintro ⟨#HR, HO, ⟨⟨X0, ⟨%f0, Y0⟩⟩, ⟨X1, ⟨%f1, Y1⟩⟩, ⟨X2, ⟨%f2, Y2⟩⟩⟩, ⟨T0, T1, T2⟩, S0, S1, S2, S3, S4, S5⟩ Hk
  iapply (copy_step m ρ K c 0 (src := xM) (dst := xV) (View.set_whole _) (View.set_whole _) (by decide) rfl
    (fs := m ((c : Thread nD τ).loc main_arg0)) (fd := f0)
    (by unfold lodPay xs; rw [show xV.view.write (Elt F) f0 (xM.view.read (Elt F) (m ((c : Thread nD τ).loc main_arg0))) Finset.univ = xM.view.read (Elt F) (m ((c : Thread nD τ).loc main_arg0)) from View.write_whole_univ _ _ _])) $$ [X0 Y0 T0]
  · isplitr; · iexact HR
    isplitl [X0]; · iexact X0
    isplitl [Y0]; · iexact Y0
    iexact T0
  iintro C0
  iapply (copy_step m ρ K c 1 (src := eM) (dst := eV) (View.set_whole _) (View.set_whole _) (by decide) rfl
    (fs := m ((c : Thread nD τ).loc main_arg3)) (fd := f1)
    (by unfold lodPay es; rw [show eV.view.write (Elt F) f1 (eM.view.read (Elt F) (m ((c : Thread nD τ).loc main_arg3))) Finset.univ = eM.view.read (Elt F) (m ((c : Thread nD τ).loc main_arg3)) from View.write_whole_univ _ _ _])) $$ [X1 Y1 T1]
  · isplitr; · iexact HR
    isplitl [X1]; · iexact X1
    isplitl [Y1]; · iexact Y1
    iexact T1
  iintro C1
  iapply (copy_step m ρ K c 2 (src := wM) (dst := wV) (View.set_whole _) (View.set_whole _) (by decide) rfl
    (fs := m ((c : Thread nD τ).loc main_arg4)) (fd := f2)
    (by unfold lodPay ws; rw [show wV.view.write (Elt F) f2 (wM.view.read (Elt F) (m ((c : Thread nD τ).loc main_arg4))) Finset.univ = wM.view.read (Elt F) (m ((c : Thread nD τ).loc main_arg4)) from View.write_whole_univ _ _ _])) $$ [X2 Y2 T2]
  · isplitr; · iexact HR
    isplitl [X2]; · iexact X2
    isplitl [Y2]; · iexact Y2
    iexact T2
  iintro C2
  iapply (sig_step m ρ K c 0 (cond_bar.1 c) (fun h => (⟨k0_dev1, k0_dev1_lt c h⟩ : Dev nD)) (fun _ => Fin.ext k0_dev1_eq) ((1#32).toInt) (by decide) (oB c 7) (oB c 8) (oB_succ c 7 0 rfl)) $$ [HO S0]
  · isplitr; · iexact HR
    isplitl [HO]; · iexact HO
    iexact S0
  iintro HO
  iapply (sig_step m ρ K c 1 (cond_bar.2.1 c) (fun h => (⟨k0_dev2, k0_dev2_lt c h⟩ : Dev nD)) (fun _ => Fin.ext k0_dev2_eq) ((1#32).toInt) (by decide) (oB c 6) (oB c 7) (oB_succ c 6 1 rfl)) $$ [HO S1]
  · isplitr; · iexact HR
    isplitl [HO]; · iexact HO
    iexact S1
  iintro HO
  iapply (sig_step m ρ K c 2 (cond_bar.2.2.1 c) (fun h => (⟨k0_dev3, k0_dev3_lt c h⟩ : Dev nD)) (fun _ => Fin.ext k0_dev3_eq) ((1#32).toInt) (by decide) (oB c 5) (oB c 6) (oB_succ c 5 2 rfl)) $$ [HO S2]
  · isplitr; · iexact HR
    isplitl [HO]; · iexact HO
    iexact S2
  iintro HO
  iapply (sig_step m ρ K c 3 (cond_bar.2.2.2.1 c) (fun h => (⟨k0_dev4, k0_dev4_lt c h⟩ : Dev nD)) (fun _ => Fin.ext k0_dev4_eq) ((1#32).toInt) (by decide) (oB c 4) (oB c 5) (oB_succ c 4 3 rfl)) $$ [HO S3]
  · isplitr; · iexact HR
    isplitl [HO]; · iexact HO
    iexact S3
  iintro HO
  iapply (sig_step m ρ K c 4 (cond_bar.2.2.2.2.1 c) (fun h => (⟨k0_dev5, k0_dev5_lt c h⟩ : Dev nD)) (fun _ => Fin.ext k0_dev5_eq) ((1#32).toInt) (by decide) (oB c 3) (oB c 4) (oB_succ c 3 4 rfl)) $$ [HO S4]
  · isplitr; · iexact HR
    isplitl [HO]; · iexact HO
    iexact S4
  iintro HO
  iapply (sig_step m ρ K c 5 (cond_bar.2.2.2.2.2.1 c) (fun h => (⟨k0_dev6, k0_dev6_lt c h⟩ : Dev nD)) (fun _ => Fin.ext k0_dev6_eq) ((1#32).toInt) (by decide) (oB c 2) (oB c 3) (oB_succ c 2 5 rfl)) $$ [HO S5]
  · isplitr; · iexact HR
    isplitl [HO]; · iexact HO
    iexact S5
  iintro HO
  iapply Hk
  isplitl [HO]; · iexact HO
  isplitl [C0]; · iexact C0
  isplitl [C1]; · iexact C1
  iexact C2

/-! ### The barrier wait and the first loads -/

/-- The two inputs staged by the pipeline. -/
def gPts : sProp 𝕄 := (c : Thread nD τ).loc cc0_stg0_0 ↦{fullShare} gs m ρ c
def iPts : sProp 𝕄 := (c : Thread nD τ).loc cc0_stg1_0 ↦{fullShare} is m ρ c
def xPts : sProp 𝕄 := (c : Thread nD τ).loc cc0_scratch4 ↦{fullShare} xs m c
def ePts : sProp 𝕄 := (c : Thread nD τ).loc cc0_scratch5 ↦{fullShare} es m c
def wPts : sProp 𝕄 := (c : Thread nD τ).loc cc0_scratch6 ↦{fullShare} ws m c
/-- The three inputs in main memory, unchanged. -/
def hPts : Fin 3 → sProp 𝕄
  | 0 => (c : Thread nD τ).loc main_arg0 ↦{fullShare} m ((c : Thread nD τ).loc main_arg0)
  | 1 => (c : Thread nD τ).loc main_arg3 ↦{fullShare} m ((c : Thread nD τ).loc main_arg3)
  | 2 => (c : Thread nD τ).loc main_arg4 ↦{fullShare} m ((c : Thread nD τ).loc main_arg4)

/-- Three zero offsets are the zero function. -/
theorem hz3 : (![0, 0, 0] : Fin 3 → Nat) = fun _ => 0 := funext fun a => by fin_cases a <;> rfl

/-- A wait for a local copy. -/
theorem lod_step (j : Fin 3) {sem : DmaSem sig} (hsem : sem = lodS j) {sp sp' : Space} {s s' : Shape} {e e' : EltTy} {src : Memref sig .tc sp s e} {dst : Memref sig .tc sp' s' e'}
    {hsrc : src.view.WordExact} {hdst : dst.view.WordExact} (hN : dst.view.dmaCredit = NL j) (O : CellTallies nD τ sig Unit)
    (hM : (levAts L lv : sProp 𝕄) ⊢ MayWait (c : Thread nD τ) (.dma (lodS j)) () O)
    {α : Type} {Q : α → sProp 𝕄} {kk : PUnit → Prog (TpuEff nD τ sig (Elt F) Λ₀ .tc) α} :
    iprop(records m ρ K ∗ levAts L lv ∗ cred (tallyAt (lodCell c j) () (NL j)) ∗ ow c O ∗ atPos ER (lodCell c j) 0 ∅ 0)
      ⊢ iprop(((ow c O ∗ semVal (lodCell c j) 0 ∗ lodPay m c j) -∗ WP c (kk ⟨⟩) Q)
        -∗ WP c (.op (.waitDma2 sem src dst hsrc hdst) kk) Q) := by
  subst hsem
  have h := wait_step m ρ K c (jL j) (w := .waitDma2 (lodS j) src dst hsrc hdst) (wpE_waitDma2_eq 𝒱₀ (c : Thread nD τ) none Set.univ)
    (by rw [duties_L, Finset.card_singleton, Nat.one_mul]; exact hN) O hM (k := kk) (Q := Q)
  rw [duties_L, bigSep_singleton, payOf_L, hN] at h
  exact h

abbrev P2 (d0 : Dev nD) (v2 : BitVec 32) (v9 : Sems sig S_) : Prog (TpuEff nD τ sig (Elt F) Λ₀ .tc) (Σ' (v36 : Vec F S512x256 .f32) (v58 : FVec F S512x1 .f32) (v64 : FVec F S512x1 .f32), IVec S512x1 1) :=
  k0_part2 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 v9

/-- The second part: the last two signals, the barrier wait, the input loaded, the routing read. -/
theorem part2_spec (hb : (sig.barrierSem 0).isSome = true) {α : Type} {Q : α → sProp 𝕄} {kk : (Σ' (v36 : Vec F S512x256 .f32) (v58 : FVec F S512x1 .f32) (v64 : FVec F S512x1 .f32), IVec S512x1 1) → Prog (TpuEff nD τ sig (Elt F) Λ₀ .tc) α} :
    iprop(records m ρ K ∗ levAts L lv ∗ ow c (oB c 2) ∗ sigRes c 6 ∗ sigRes c 7
        ∗ (cred (tallyAt (barCell c) () 7) ∗ atPos ER (barCell c) 0 ∅ 0) ∗ (cred (tallyAt (lodCell c 0) () (NL 0)) ∗ atPos ER (lodCell c 0) 0 ∅ 0)
        ∗ gPts m ρ c ∗ iPts m ρ c)
      ⊢ iprop(((ow c (oS c 7) ∗ semVal (barCell c) 0 ∗ (bigSep (Finset.univ.erase c) fun d => rAny d c) ∗ semVal (lodCell c 0) 0 ∗ xPts m c ∗ hPts m c 0 ∗ gPts m ρ c ∗ iPts m ρ c)
            -∗ WP c (kk ⟨xs m c, k0_pay2 (xs m c) (gs m ρ c) (is m ρ c), k0_pay3 (w2 c) (xs m c) (gs m ρ c) (is m ρ c), k0_pay4 (w2 c) (is m ρ c)⟩) Q)
        -∗ WP c (P2 c (w2 c) (SemArray.scalar (sig.barrier 0 hb)) >>= kk) Q) := by
  unfold P2
  simp only [k0_part2_eq_skeleton]
  unfold k0_part2_skel
  simp -zetaHave only [semSignalWord, semWaitWord, Prog.lift, Prog.bind_op, Prog.bind_ret, Prog.pure_eq_ret]
  simp -zetaHave only [dite_rest]
  simp only [Prog.bind_op, Prog.bind_ret, Prog.bind_assoc]
  unfold gPts iPts xPts
  iintro ⟨#HR, #Hlev, HO, S6, S7, ⟨CB, AB⟩, ⟨C0, A0⟩, Hg, Hi⟩ Hk
  iapply (sig_step m ρ K c 6 (cond_bar.2.2.2.2.2.2.1 c) (fun h => (⟨k0_dev7, k0_dev7_lt c h⟩ : Dev nD)) (fun _ => Fin.ext k0_dev7_eq) ((1#32).toInt) (by decide) (oB c 1) (oB c 2) (oB_succ c 1 6 rfl)) $$ [HO S6]
  · isplitr; · iexact HR
    isplitl [HO]; · iexact HO
    iexact S6
  iintro HO
  iapply (sig_step m ρ K c 7 (cond_bar.2.2.2.2.2.2.2 c) (fun h => (⟨k0_dev8, k0_dev8_lt c h⟩ : Dev nD)) (fun _ => Fin.ext k0_dev8_eq) ((1#32).toInt) (by decide) (oB c 0) (oB c 1) (oB_succ c 0 7 rfl)) $$ [HO S7]
  · isplitr; · iexact HR
    isplitl [HO]; · iexact HO
    iexact S7
  iintro HO
  iapply (wait_step m ρ K c jB (k' := 7) (wpE_semWait_eq 𝒱₀ (c : Thread nD τ) none Set.univ)
      (by rw [duties_B, Finset.card_erase_of_mem (Finset.mem_univ _), Finset.card_univ, Fintype.card_fin]; rfl) (oS c 7) (mayWait_bar c)) $$ [CB HO AB]
  · isplitr; · iexact HR
    isplitr; · iexact Hlev
    isplitl [CB]; · iexact CB
    isplitl [HO]; · iexact HO
    iexact AB
  iintro ⟨HO, Hz, Hpay⟩
  ihave Hpay := (Entails.of_eq (show bigSep (dutiesOf c jB) (fun d => payOf m ρ c jB d) = bigSep (Finset.univ.erase c) (fun d => rAny d c) from rfl)) $$ Hpay
  iapply (lod_step m ρ K c 0 (by decide) rfl (oB c 0) (mayWait_low c _ (lv_lod c _) 0)) $$ [C0 HO A0]
  · isplitr; · iexact HR
    isplitr; · iexact Hlev
    isplitl [C0]; · iexact C0
    isplitl [HO]; · iexact HO
    iexact A0
  unfold lodPay
  iintro ⟨HO, Hz0, ⟨Hx, Hh⟩⟩
  iapply (wp_load 𝒱₀ (c : Thread nD τ) none Set.univ (m := xV) (Finset.subset_univ _)) $$ Hx; iintro Hx
  rw [show xV.view.readAt (Elt F) (Rect.unit (s := S512x256) ![0, 0] S512x256.size inb_S512x256_S512x256_0_0).toLoadRect (xs m c) = xs m c from Memref.readAt_unit_zero (Elt F) cc0_scratch4 hz2 _ _]
  iapply (wp_load 𝒱₀ (c : Thread nD τ) none Set.univ (m := gM) (Finset.subset_univ _)) $$ Hg; iintro Hg
  rw [show gM.view.readAt (Elt F) (Rect.unit (s := S256x16) ![0, 0] S256x16.size inb_S256x16_S256x16_0_0).toLoadRect (gs m ρ c) = gs m ρ c from Memref.readAt_unit_zero (Elt F) cc0_stg0_0 hz2 _ _]
  iapply (wp_load 𝒱₀ (c : Thread nD τ) none Set.univ (m := iM) (Finset.subset_univ _)) $$ Hi; iintro Hi
  rw [show iM.view.readAt (Elt F) (Rect.unit (s := S512x1) ![0, 0] S512x1.size inb_S512x1_S512x1_0_0).toLoadRect (is m ρ c) = is m ρ c from Memref.readAt_unit_zero (Elt F) cc0_stg1_0 hz2 _ _]
  iapply Hk
  isplitl [HO]; · iexact HO
  isplitl [Hz]; · iexact Hz
  isplitl [Hpay]; · iexact Hpay
  isplitl [Hz0]; · iexact Hz0
  isplitl [Hx]; · iexact Hx
  isplitl [Hh]; · unfold hPts; iexact Hh
  isplitl [Hg]; · iexact Hg
  iexact Hi

abbrev P3 (v2 : BitVec 32) (v36 : Vec F S512x256 .f32) (v58 : FVec F S512x1 .f32) (v64 : FVec F S512x1 .f32) (v68 : IVec S512x1 1) : Prog (TpuEff nD τ sig (Elt F) Λ₀ .tc) (Σ' (v92 : FVec F S256x512 .bf16) (v104 : BitVec 32), BitVec 32) :=
  k0_part3 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 v2 v36 v58 v64 v68

/-- The product and the scaled input as stored. -/
def dPts : sProp 𝕄 := (c : Thread nD τ).loc cc0_scratch2 ↦{fullShare} dC m ρ c
def yPts : sProp 𝕄 := (c : Thread nD τ).loc cc0_scratch3 ↦{fullShare} yC m ρ c
def dAny : sProp 𝕄 := iprop(∃ f, (c : Thread nD τ).loc cc0_scratch2 ↦{fullShare} f)
def yAny : sProp 𝕄 := iprop(∃ f, (c : Thread nD τ).loc cc0_scratch3 ↦{fullShare} f)

/-- The third part: the experts loaded, the first product and the scaled input stored. -/
theorem part3_spec {α : Type} {Q : α → sProp 𝕄} {kk : (Σ' (v92 : FVec F S256x512 .bf16) (v104 : BitVec 32), BitVec 32) → Prog (TpuEff nD τ sig (Elt F) Λ₀ .tc) α} :
    iprop(records m ρ K ∗ levAts L lv ∗ ow c (oS c 7) ∗ (cred (tallyAt (lodCell c 1) () (NL 1)) ∗ atPos ER (lodCell c 1) 0 ∅ 0) ∗ dAny c ∗ yAny c)
      ⊢ iprop((∀ v w, (ow c (oS c 7) ∗ semVal (lodCell c 1) 0 ∗ ePts m c ∗ hPts m c 1 ∗ dPts m ρ c ∗ yPts m ρ c) -∗ WP c (kk ⟨e1C m c, v, w⟩) Q)
        -∗ WP c (P3 (w2 c) (xs m c) (k0_pay2 (xs m c) (gs m ρ c) (is m ρ c)) (k0_pay3 (w2 c) (xs m c) (gs m ρ c) (is m ρ c)) (k0_pay4 (w2 c) (is m ρ c)) >>= kk) Q) := by
  unfold P3
  simp only [k0_part3_eq_skeleton]
  unfold k0_part3_skel
  simp only [Prog.lift, Prog.bind_op, Prog.bind_ret, Prog.pure_eq_ret]
  unfold dAny yAny dPts yPts ePts e1C
  iintro ⟨#HR, #Hlev, HO, ⟨C1, A1⟩, ⟨%f, Hd⟩, ⟨%f', Hy⟩⟩ Hk
  iapply (lod_step m ρ K c 1 (by decide) rfl (oB c 0) (mayWait_low c _ (lv_lod c _) 0)) $$ [C1 HO A1]
  · isplitr; · iexact HR
    isplitr; · iexact Hlev
    isplitl [C1]; · iexact C1
    isplitl [HO]; · iexact HO
    iexact A1
  unfold lodPay
  iintro ⟨HO, Hz, ⟨He, Hh⟩⟩
  iapply (wp_load 𝒱₀ (c : Thread nD τ) none Set.univ (m := eV) (Finset.subset_univ _)) $$ He; iintro He
  iapply (wp_load 𝒱₀ (c : Thread nD τ) none Set.univ (m := dM) (Finset.subset_univ _)) $$ Hd; iintro Hd
  iapply (wp_store 𝒱₀ (c : Thread nD τ) none Set.univ (m := dM) (r := Rect.unit (s := S512x512) ![0, 0] S512x512.size inb_S512x512_S512x512_0_0) (Mk := Finset.univ) (Finset.subset_univ _)) $$ Hd; iintro Hd
  rw [show ∀ w, (dM.access (Rect.unit (s := S512x512) ![0, 0] S512x512.size inb_S512x512_S512x512_0_0)).write (Elt F) f w Finset.univ = w from
      fun w => Memref.write_access_unit_zero_univ (Elt F) cc0_scratch2 hz2 _ f w]
  iapply (wp_load 𝒱₀ (c : Thread nD τ) none Set.univ (m := yM) (Finset.subset_univ _)) $$ Hy; iintro Hy
  iapply (wp_store 𝒱₀ (c : Thread nD τ) none Set.univ (m := yM) (r := Rect.unit (s := S512x256) ![0, 0] S512x256.size inb_S512x256_S512x256_0_0) (Mk := Finset.univ) (Finset.subset_univ _)) $$ Hy; iintro Hy
  rw [show ∀ w, (yM.access (Rect.unit (s := S512x256) ![0, 0] S512x256.size inb_S512x256_S512x256_0_0)).write (Elt F) f' w Finset.univ = w from
      fun w => Memref.write_access_unit_zero_univ (Elt F) cc0_scratch3 hz2 _ f' w]
  iapply (wp_load 𝒱₀ (c : Thread nD τ) none Set.univ (m := eV) (Finset.subset_univ _)) $$ He; iintro He
  iapply Hk
  isplitl [HO]; · iexact HO
  isplitl [Hz]; · iexact Hz
  isplitl [He]; · iexact He
  isplitl [Hh]; · unfold hPts; iexact Hh
  isplitl [Hd]; · unfold dC; iexact Hd
  unfold yC; iexact Hy

end Cert.Moe

end
-- ==== Proof.PartB.lean ====
/-
The parts of the body that send: each row of the send buffer is filled with the chunk of its target and goes out.
Then the device's own chunk with the shared expert's product is put in the result.
-/
module

public import proofs.«01_k».proof.Proof.PartA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × J → ℕ) (c : Dev nD)

/-- The kernel's target of each send row. -/
theorem dev_eq : (∀ c : Dev nD, (⟨k0_dev9 c, k0_dev9_lt c⟩ : Dev nD) = tgt c 0) ∧ (∀ c : Dev nD, (⟨k0_dev10 c, k0_dev10_lt c⟩ : Dev nD) = tgt c 1)
    ∧ (∀ c : Dev nD, (⟨k0_dev11 c, k0_dev11_lt c⟩ : Dev nD) = tgt c 2) ∧ (∀ c : Dev nD, (⟨k0_dev12 c, k0_dev12_lt c⟩ : Dev nD) = tgt c 3)
    ∧ (∀ c : Dev nD, (⟨k0_dev13 c, k0_dev13_lt c⟩ : Dev nD) = tgt c 4) ∧ (∀ c : Dev nD, (⟨k0_dev14 c, k0_dev14_lt c⟩ : Dev nD) = tgt c 5)
    ∧ (∀ c : Dev nD, (⟨k0_dev15 c, k0_dev15_lt c⟩ : Dev nD) = tgt c 6) := by decide +kernel

/-- The rows of the scaled input and of the product that chunk `t` is made of. -/
abbrev yRow (t : Dev nD) : FVec F S64x256 .bf16 := yM.view.readAt (Elt F) (yR t).toLoadRect (yC m ρ c)
abbrev dRow (t : Dev nD) : FVec F S64x512 .f32 := dM.view.readAt (Elt F) (dR t).toLoadRect (dC m ρ c)

abbrev P4 (d0 : Dev nD) (v2 : BitVec 32) (e : FVec F S256x512 .bf16) (v104 : BitVec 32) (v105 : BitVec 32) : Prog (TpuEff nD τ sig (Elt F) Λ₀ .tc) (Σ' (v137 : BitVec 32), BitVec 32) :=
  k0_part4 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v104 v105

/-- The chunk of the first target is stored and sent. -/
theorem part4_spec (a b : BitVec 32) {α : Type} {Q : α → sProp 𝕄} {kk : (Σ' (v137 : BitVec 32), BitVec 32) → Prog (TpuEff nD τ sig (Elt F) Λ₀ .tc) α} :
    iprop(records m ρ K ∗ ow c (oS c 7) ∗ txRes c 0 ∗ yPts m ρ c ∗ dPts m ρ c)
      ⊢ iprop((∀ v w, (ow c (oS c 6) ∗ cred (tallyAt (sndCell c 0) () N) ∗ yPts m ρ c ∗ dPts m ρ c) -∗ WP c (kk ⟨v, w⟩) Q)
        -∗ WP c (P4 c (w2 c) (e1C m c) a b >>= kk) Q) := by
  unfold P4
  simp only [k0_part4_eq_skeleton]
  unfold k0_part4_skel
  simp only [Prog.lift, Prog.bind_op, Prog.bind_ret, Prog.pure_eq_ret]
  unfold yPts dPts
  iintro ⟨#HR, HO, T, Hy, Hd⟩ Hk
  iapply (load_y c (tgt c 0) (off1_eq c 0)) $$ Hy; iintro Hy
  iapply (load_d c (tgt c 0) (off2_eq c 0)) $$ Hd; iintro Hd
  iapply (row_step m ρ K c 0 _ (dev_eq.1 c) (off := ![0, 0, 0]) rfl (srcRow_eq 0 rfl _) (dstRow_eq c (k0_off4_eq c) _) (by decide) (rcvSem_eq c (k0_off3_eq c) _)
      (oS c 6) (oS c 7) (oS_succ c 6 0 rfl) (by unfold chunk; rfl)) $$ [HO T]
  · isplitr; · iexact HR
    isplitl [HO]; · iexact HO
    iexact T
  iintro ⟨C, HO⟩
  iapply Hk
  isplitl [HO]; · iexact HO
  isplitl [C]; · iexact C
  isplitl [Hy]; · iexact Hy
  iexact Hd

abbrev P5 (d0 : Dev nD) (v2 : BitVec 32) (e : FVec F S256x512 .bf16) (v137 : BitVec 32) (v138 : BitVec 32) : Prog (TpuEff nD τ sig (Elt F) Λ₀ .tc) (Σ' (v170 : BitVec 32) (v171 : BitVec 32), Vec F S64x256 .bf16) :=
  k0_part5 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v137 v138

/-- The second; the rows for the third are read. -/
theorem part5_spec (a b : BitVec 32) {α : Type} {Q : α → sProp 𝕄} {kk : (Σ' (v170 : BitVec 32) (v171 : BitVec 32), Vec F S64x256 .bf16) → Prog (TpuEff nD τ sig (Elt F) Λ₀ .tc) α} :
    iprop(records m ρ K ∗ ow c (oS c 6) ∗ txRes c 1 ∗ yPts m ρ c ∗ dPts m ρ c)
      ⊢ iprop((∀ v w, (ow c (oS c 5) ∗ cred (tallyAt (sndCell c 1) () N) ∗ yPts m ρ c ∗ dPts m ρ c) -∗ WP c (kk ⟨v, w, yRow m ρ c (tgt c 2)⟩) Q)
        -∗ WP c (P5 c (w2 c) (e1C m c) a b >>= kk) Q) := by
  unfold P5
  simp only [k0_part5_eq_skeleton]
  unfold k0_part5_skel
  simp only [Prog.lift, Prog.bind_op, Prog.bind_ret, Prog.pure_eq_ret]
  unfold yPts dPts
  iintro ⟨#HR, HO, T, Hy, Hd⟩ Hk
  iapply (load_y c (tgt c 1) (off1_eq c 1)) $$ Hy; iintro Hy
  iapply (load_d c (tgt c 1) (off2_eq c 1)) $$ Hd; iintro Hd
  iapply (row_step m ρ K c 1 _ (dev_eq.2.1 c) (off := ![1, 0, 0]) rfl (srcRow_eq 1 rfl _) (dstRow_eq c (k0_off4_eq c) _) (by decide) (rcvSem_eq c (k0_off3_eq c) _)
      (oS c 5) (oS c 6) (oS_succ c 5 1 rfl) (by unfold chunk; rfl)) $$ [HO T]
  · isplitr; · iexact HR
    isplitl [HO]; · iexact HO
    iexact T
  iintro ⟨C, HO⟩
  iapply (load_y c (tgt c 2) (off1_eq c 2)) $$ Hy; iintro Hy
  iapply Hk
  isplitl [HO]; · iexact HO
  isplitl [C]; · iexact C
  isplitl [Hy]; · iexact Hy
  iexact Hd

abbrev P6 (d0 : Dev nD) (v2 : BitVec 32) (e : FVec F S256x512 .bf16) (v170 : BitVec 32) (v171 : BitVec 32) (v173 : Vec F S64x256 .bf16) : Prog (TpuEff nD τ sig (Elt F) Λ₀ .tc) (Σ' (v203 : BitVec 32) (v204 : BitVec 32), FVec F S64x512 .f32) :=
  k0_part6 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v170 v171 v173

/-- The third; the rows for the fourth are read and widened. -/
theorem part6_spec (a b : BitVec 32) {α : Type} {Q : α → sProp 𝕄} {kk : (Σ' (v203 : BitVec 32) (v204 : BitVec 32), FVec F S64x512 .f32) → Prog (TpuEff nD τ sig (Elt F) Λ₀ .tc) α} :
    iprop(records m ρ K ∗ ow c (oS c 5) ∗ txRes c 2 ∗ yPts m ρ c ∗ dPts m ρ c)
      ⊢ iprop((∀ v w, (ow c (oS c 4) ∗ cred (tallyAt (sndCell c 2) () N) ∗ yPts m ρ c ∗ dPts m ρ c) -∗ WP c (kk ⟨v, w, k0_pay11 (e1C m c) (yRow m ρ c (tgt c 3))⟩) Q)
        -∗ WP c (P6 c (w2 c) (e1C m c) a b (yRow m ρ c (tgt c 2)) >>= kk) Q) := by
  unfold P6
  simp only [k0_part6_eq_skeleton]
  unfold k0_part6_skel
  simp only [Prog.lift, Prog.bind_op, Prog.bind_ret, Prog.pure_eq_ret]
  unfold yPts dPts
  iintro ⟨#HR, HO, T, Hy, Hd⟩ Hk
  iapply (load_d c (tgt c 2) (off2_eq c 2)) $$ Hd; iintro Hd
  iapply (row_step m ρ K c 2 _ (dev_eq.2.2.1 c) (off := ![2, 0, 0]) rfl (srcRow_eq 2 rfl _) (dstRow_eq c (k0_off4_eq c) _) (by decide) (rcvSem_eq c (k0_off3_eq c) _)
      (oS c 4) (oS c 5) (oS_succ c 4 2 rfl) (by unfold chunk; rfl)) $$ [HO T]
  · isplitr; · iexact HR
    isplitl [HO]; · iexact HO
    iexact T
  iintro ⟨C, HO⟩
  iapply (load_y c (tgt c 3) (off1_eq c 3)) $$ Hy; iintro Hy
  iapply Hk
  isplitl [HO]; · iexact HO
  isplitl [C]; · iexact C
  isplitl [Hy]; · iexact Hy
  iexact Hd

abbrev P7 (d0 : Dev nD) (v2 : BitVec 32) (e : FVec F S256x512 .bf16) (v203 : BitVec 32) (v204 : BitVec 32) (v207 : FVec F S64x512 .f32) : Prog (TpuEff nD τ sig (Elt F) Λ₀ .tc) (Σ' (v236 : BitVec 32), FVec F S64x512 .f32) :=
  k0_part7 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v203 v204 v207

/-- The fourth. -/
theorem part7_spec (a b : BitVec 32) {α : Type} {Q : α → sProp 𝕄} {kk : (Σ' (v236 : BitVec 32), FVec F S64x512 .f32) → Prog (TpuEff nD τ sig (Elt F) Λ₀ .tc) α} :
    iprop(records m ρ K ∗ ow c (oS c 4) ∗ txRes c 3 ∗ yPts m ρ c ∗ dPts m ρ c)
      ⊢ iprop((∀ v, (ow c (oS c 3) ∗ cred (tallyAt (sndCell c 3) () N) ∗ yPts m ρ c ∗ dPts m ρ c) -∗ WP c (kk ⟨v, k0_pay13 (e1C m c) (yRow m ρ c (tgt c 4))⟩) Q)
        -∗ WP c (P7 c (w2 c) (e1C m c) a b (k0_pay11 (e1C m c) (yRow m ρ c (tgt c 3))) >>= kk) Q) := by
  unfold P7
  simp only [k0_part7_eq_skeleton]
  unfold k0_part7_skel
  simp only [Prog.lift, Prog.bind_op, Prog.bind_ret, Prog.pure_eq_ret]
  unfold yPts dPts
  iintro ⟨#HR, HO, T, Hy, Hd⟩ Hk
  iapply (load_d c (tgt c 3) (off2_eq c 3)) $$ Hd; iintro Hd
  iapply (row_step m ρ K c 3 _ (dev_eq.2.2.2.1 c) (off := ![3, 0, 0]) rfl (srcRow_eq 3 rfl _) (dstRow_eq c (k0_off4_eq c) _) (by decide) (rcvSem_eq c (k0_off3_eq c) _)
      (oS c 3) (oS c 4) (oS_succ c 3 3 rfl) (by unfold chunk; rfl)) $$ [HO T]
  · isplitr; · iexact HR
    isplitl [HO]; · iexact HO
    iexact T
  iintro ⟨C, HO⟩
  iapply (load_y c (tgt c 4) (off1_eq c 4)) $$ Hy; iintro Hy
  iapply Hk
  isplitl [HO]; · iexact HO
  isplitl [C]; · iexact C
  isplitl [Hy]; · iexact Hy
  iexact Hd

abbrev P8 (d0 : Dev nD) (v2 : BitVec 32) (e : FVec F S256x512 .bf16) (v236 : BitVec 32) (v240 : FVec F S64x512 .f32) : Prog (TpuEff nD τ sig (Elt F) Λ₀ .tc) (Σ' (v269 : BitVec 32), FVec F S64x512 .f32) :=
  k0_part8 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v236 v240

/-- The fifth. -/
theorem part8_spec (a : BitVec 32) {α : Type} {Q : α → sProp 𝕄} {kk : (Σ' (v269 : BitVec 32), FVec F S64x512 .f32) → Prog (TpuEff nD τ sig (Elt F) Λ₀ .tc) α} :
    iprop(records m ρ K ∗ ow c (oS c 3) ∗ txRes c 4 ∗ yPts m ρ c ∗ dPts m ρ c)
      ⊢ iprop((∀ v, (ow c (oS c 2) ∗ cred (tallyAt (sndCell c 4) () N) ∗ yPts m ρ c ∗ dPts m ρ c) -∗ WP c (kk ⟨v, k0_pay15 (e1C m c) (yRow m ρ c (tgt c 5)) (dRow m ρ c (tgt c 5))⟩) Q)
        -∗ WP c (P8 c (w2 c) (e1C m c) a (k0_pay13 (e1C m c) (yRow m ρ c (tgt c 4))) >>= kk) Q) := by
  unfold P8
  simp only [k0_part8_eq_skeleton]
  unfold k0_part8_skel
  simp only [Prog.lift, Prog.bind_op, Prog.bind_ret, Prog.pure_eq_ret]
  unfold yPts dPts
  iintro ⟨#HR, HO, T, Hy, Hd⟩ Hk
  iapply (load_d c (tgt c 4) (off2_eq c 4)) $$ Hd; iintro Hd
  iapply (row_step m ρ K c 4 _ (dev_eq.2.2.2.2.1 c) (off := ![4, 0, 0]) rfl (srcRow_eq 4 rfl _) (dstRow_eq c (k0_off4_eq c) _) (by decide) (rcvSem_eq c (k0_off3_eq c) _)
      (oS c 2) (oS c 3) (oS_succ c 2 4 rfl) (by unfold chunk; rfl)) $$ [HO T]
  · isplitr; · iexact HR
    isplitl [HO]; · iexact HO
    iexact T
  iintro ⟨C, HO⟩
  iapply (load_y c (tgt c 5) (off1_eq c 5)) $$ Hy; iintro Hy
  iapply (load_d c (tgt c 5) (off2_eq c 5)) $$ Hd; iintro Hd
  iapply Hk
  isplitl [HO]; · iexact HO
  isplitl [C]; · iexact C
  isplitl [Hy]; · iexact Hy
  iexact Hd

abbrev P9 (d0 : Dev nD) (v2 : BitVec 32) (e : FVec F S256x512 .bf16) (v269 : BitVec 32) (v276 : FVec F S64x512 .f32) : Prog (TpuEff nD τ sig (Elt F) Λ₀ .tc) (Σ' (v302 : BitVec 32), FVec F S64x512 .bf16) :=
  k0_part9 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v269 v276

/-- The sixth. -/
theorem part9_spec (a : BitVec 32) {α : Type} {Q : α → sProp 𝕄} {kk : (Σ' (v302 : BitVec 32), FVec F S64x512 .bf16) → Prog (TpuEff nD τ sig (Elt F) Λ₀ .tc) α} :
    iprop(records m ρ K ∗ ow c (oS c 2) ∗ txRes c 5 ∗ yPts m ρ c ∗ dPts m ρ c)
      ⊢ iprop((∀ v, (ow c (oS c 1) ∗ cred (tallyAt (sndCell c 5) () N) ∗ yPts m ρ c ∗ dPts m ρ c) -∗ WP c (kk ⟨v, k0_pay17 (e1C m c) (yRow m ρ c (tgt c 6)) (dRow m ρ c (tgt c 6))⟩) Q)
        -∗ WP c (P9 c (w2 c) (e1C m c) a (k0_pay15 (e1C m c) (yRow m ρ c (tgt c 5)) (dRow m ρ c (tgt c 5))) >>= kk) Q) := by
  unfold P9
  simp only [k0_part9_eq_skeleton]
  unfold k0_part9_skel
  simp only [Prog.lift, Prog.bind_op, Prog.bind_ret, Prog.pure_eq_ret]
  unfold yPts dPts
  iintro ⟨#HR, HO, T, Hy, Hd⟩ Hk
  iapply (row_step m ρ K c 5 _ (dev_eq.2.2.2.2.2.1 c) (off := ![5, 0, 0]) rfl (srcRow_eq 5 rfl _) (dstRow_eq c (k0_off4_eq c) _) (by decide) (rcvSem_eq c (k0_off3_eq c) _)
      (oS c 1) (oS c 2) (oS_succ c 1 5 rfl) (by unfold chunk; rfl)) $$ [HO T]
  · isplitr; · iexact HR
    isplitl [HO]; · iexact HO
    iexact T
  iintro ⟨C, HO⟩
  iapply (load_y c (tgt c 6) (off1_eq c 6)) $$ Hy; iintro Hy
  iapply (load_d c (tgt c 6) (off2_eq c 6)) $$ Hd; iintro Hd
  iapply Hk
  isplitl [HO]; · iexact HO
  isplitl [C]; · iexact C
  isplitl [Hy]; · iexact Hy
  iexact Hd

abbrev P10 (d0 : Dev nD) (v2 : BitVec 32) (e : FVec F S256x512 .bf16) (v302 : BitVec 32) (v310 : FVec F S64x512 .bf16) : Prog (TpuEff nD τ sig (Elt F) Λ₀ .tc) (BitVec 1) :=
  k0_part10 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 d0 v2 e v302 v310

/-- The result's staging buffer at any contents. -/
def oAny : sProp 𝕄 := iprop(∃ a, oPts c a)

/-- The condition of the receive from device `s`. -/
abbrev rcond (s : BitVec 32) : BitVec 1 := Scalar.cmpi .ne (Scalar.extui (Scalar.cmpi .ne (w2 c) s) : BitVec 32) 0#32

/-- The last chunk is sent; the device's own rows and the shared expert's product go to the result. -/
theorem part10_spec (a : BitVec 32) {α : Type} {Q : α → sProp 𝕄} {kk : BitVec 1 → Prog (TpuEff nD τ sig (Elt F) Λ₀ .tc) α} :
    iprop(records m ρ K ∗ levAts L lv ∗ ow c (oS c 1) ∗ txRes c 6 ∗ yPts m ρ c ∗ dPts m ρ c
        ∗ (cred (tallyAt (lodCell c 2) () (NL 2)) ∗ atPos ER (lodCell c 2) 0 ∅ 0) ∗ xPts m c ∗ oAny c)
      ⊢ iprop(((ow c 0 ∗ cred (tallyAt (sndCell c 6) () N) ∗ yPts m ρ c ∗ dPts m ρ c ∗ semVal (lodCell c 2) 0 ∗ wPts m c ∗ hPts m c 2 ∗ xPts m c ∗ oPts c (out0 m ρ c))
            -∗ WP c (kk (rcond c 0#32)) Q)
        -∗ WP c (P10 c (w2 c) (e1C m c) a (k0_pay17 (e1C m c) (yRow m ρ c (tgt c 6)) (dRow m ρ c (tgt c 6))) >>= kk) Q) := by
  unfold P10
  simp only [k0_part10_eq_skeleton]
  unfold k0_part10_skel
  simp only [Prog.lift, Prog.bind_op, Prog.bind_ret, Prog.pure_eq_ret]
  unfold yPts dPts xPts wPts oAny oPts
  iintro ⟨#HR, #Hlev, HO, T, Hy, Hd, ⟨C2, A2⟩, Hx, ⟨%a0, Ho⟩⟩ Hk
  iapply (row_step m ρ K c 6 _ (dev_eq.2.2.2.2.2.2 c) (off := ![6, 0, 0]) rfl (srcRow_eq 6 rfl _) (dstRow_eq c (k0_off4_eq c) _) (by decide) (rcvSem_eq c (k0_off3_eq c) _)
      (oS c 0) (oS c 1) (oS_succ c 0 6 rfl) (by unfold chunk; rfl)) $$ [HO T]
  · isplitr; · iexact HR
    isplitl [HO]; · iexact HO
    iexact T
  iintro ⟨C, HO⟩
  iapply (load_y c c (k0_off5_eq c)) $$ Hy; iintro Hy
  iapply (load_d c c (k0_off6_eq c)) $$ Hd; iintro Hd
  iapply (lod_step m ρ K c 2 (by decide) rfl (oS c 0) (by unfold oS; rw [MayWait_zero]; iintro -; iempintro)) $$ [C2 HO A2]
  · isplitr; · iexact HR
    isplitr; · iexact Hlev
    isplitl [C2]; · iexact C2
    isplitl [HO]; · iexact HO
    iexact A2
  unfold lodPay
  iintro ⟨HO, Hz, ⟨Hw, Hh⟩⟩
  iapply (load_x c c (k0_off5_eq c)) $$ Hx; iintro Hx
  iapply (wp_load 𝒱₀ (c : Thread nD τ) none Set.univ (m := wV) (Finset.subset_univ _)) $$ Hw; iintro Hw
  rw [show wV.view.readAt (Elt F) (Rect.unit (s := S256x512) ![0, 0] S256x512.size inb_S256x512_S256x512_0_0).toLoadRect (ws m c) = ws m c from Memref.readAt_unit_zero (Elt F) cc0_scratch6 hz2 _ _]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [show ∀ w, (oM.access oR).write (Elt F) a0 w Finset.univ = w from fun w => Memref.write_access_unit_zero_univ (Elt F) cc0_stg2_0 hz2 _ a0 w]
  iapply Hk
  isplitl [HO]; · iexact HO
  isplitl [C]; · iexact C
  isplitl [Hy]; · iexact Hy
  isplitl [Hd]; · iexact Hd
  isplitl [Hz]; · iexact Hz
  isplitl [Hw]; · iexact Hw
  isplitl [Hh]; · unfold hPts; iexact Hh
  isplitl [Hx]; · iexact Hx
  unfold out0; iexact Ho

end Cert.Moe

end
-- ==== Proof.PartC.lean ====
/-
The parts of the body that receive and that wait for the sends.
-/
module

public import proofs.«01_k».proof.Proof.PartB

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × J → ℕ) (c : Dev nD)

/-- What the wait for send `k` needs and leaves; what the receive from `s` leaves. -/
def sndIn (k : Fin 7) : sProp 𝕄 := iprop(cred (tallyAt (sndCell c k) () N) ∗ atPos ER (sndCell c k) 0 ∅ 0)
def sndOut (k : Fin 7) : sProp 𝕄 := iprop(semVal (sndCell c k) 0 ∗ sAny c k)
def rcvOut (s : Fin 8) : sProp 𝕄 := iprop(semVal (rcvCell c s) 0 ∗ rAny c s)

/-- The wait for the completion of send `k`. -/
theorem swait_step (k : Fin 7) {sem : DmaSem sig} (hsm : sem = sndS k) {v v' : Memref sig .tc .vmem S64x512 .bf16}
    {hv1 : v.view.WordExact} {hv2 : v'.view.WordExact} (hN : v'.view.dmaCredit = N)
    {α : Type} {Q : α → sProp 𝕄} {kk : PUnit → Prog (TpuEff nD τ sig (Elt F) Λ₀ .tc) α} :
    iprop(records m ρ K ∗ levAts L lv ∗ ow c 0 ∗ sndIn c k)
      ⊢ iprop(((ow c 0 ∗ sndOut c k) -∗ WP c (kk ⟨⟩) Q)
        -∗ WP c (.op (.waitDma2 sem v v' hv1 hv2) kk) Q) := by
  subst hsm
  unfold sndIn sndOut
  iintro ⟨#HR, #Hlev, HO, ⟨Hc, Hat⟩⟩ Hk
  iapply (wait_step m ρ K c (jS k) (wpE_waitDma2_eq 𝒱₀ (c : Thread nD τ) none Set.univ)
    (by rw [duties_S, Finset.card_singleton, Nat.one_mul, hN]; rfl) 0 (by rw [MayWait_zero]; iintro -; iempintro)) $$ [Hc HO Hat]
  · isplitr; · iexact HR
    isplitr; · iexact Hlev
    isplitl [Hc]; · rw [hN]; iexact Hc
    isplitl [HO]; · iexact HO
    iexact Hat
  iintro ⟨HO, Hz, Hp⟩
  ihave Hp := (Entails.of_eq (show bigSep (dutiesOf c (jS k)) (fun d => payOf m ρ c (jS k) d) = sAny c k from by
    rw [duties_S, bigSep_singleton]; rfl)) $$ Hp
  iapply Hk
  isplitl [HO]; · iexact HO
  isplitl [Hz]; · iexact Hz
  iexact Hp

/-- A receive row as the kernel names it, at its offset. -/
abbrev rowAt (off : Fin 3 → ℕ) (inb : ∀ a, off a + S1x64x512.size a ≤ S8x64x512.size a) : Memref sig .tc .vmem S64x512 .bf16 :=
  (rM.slice (Rect.unit (s := S8x64x512) off S1x64x512.size inb) (fun _ => rfl)).squeeze S64x512 squeezes_S1x64x512_S64x512

/-- The conditional receive followed by `R`, as the program's text has it: the rest in both branches. -/
def recvThen {α : Type} (p : Prop) [Decidable p] (q : DmaSem sig) (off : Fin 3 → ℕ) (inb : ∀ a, off a + S1x64x512.size a ≤ S8x64x512.size a)
    (hw : (rowAt off inb).view.WordExact) (R : Prog (TpuEff nD τ sig (Elt F) Λ₀ .tc) α) : Prog (TpuEff nD τ sig (Elt F) Λ₀ .tc) α :=
  if h : p then Prog.op (.waitDma2 q (rowAt off inb) (rowAt off inb) hw hw) fun _ => .op (.load oM oR.toLoadRect (View.loadsAt_vmem h_S64x512)) fun x =>
    .op (.load rM (Rect.unit (s := S8x64x512) off S1x64x512.size inb).toLoadRect (View.loadsAt_vmem h_S1x64x512)) fun y =>
    .op (.load oM oR.toLoadRect (View.loadsAt_vmem h_S64x512)) fun _ =>
    .op (.store oM oR (k0_pay20 x y) Finset.univ (View.stores_vmem_bits_univ h_S64x512 rfl) (.inl rfl)) fun _ => R
  else R

/-- What follows a conditional receive may be moved into its continuation. -/
theorem recvThen_bind {α β : Type} (p : Prop) [Decidable p] (q : DmaSem sig) (off : Fin 3 → ℕ) (inb : ∀ a, off a + S1x64x512.size a ≤ S8x64x512.size a)
    (hw : (rowAt off inb).view.WordExact) (R : Prog (TpuEff nD τ sig (Elt F) Λ₀ .tc) α) (f : α → Prog (TpuEff nD τ sig (Elt F) Λ₀ .tc) β) :
    recvThen p q off inb hw R >>= f = recvThen p q off inb hw (R >>= f) := by
  unfold recvThen; split <;> rfl

/-- The step of such a receive. -/
theorem recvThen_step (s : Fin 8) {p : Prop} [Decidable p] (hp : p ↔ s ≠ c) {q : DmaSem sig} (hsm : q = rcvS s)
    {off : Fin 3 → ℕ} (hoff : off = ![s.val, 0, 0]) {inb : ∀ a, off a + S1x64x512.size a ≤ S8x64x512.size a} {hw : (rowAt off inb).view.WordExact}
    (a : (cc0_stg2_0 : Ref sig .tc).ty.Contents (Elt F)) {β : Type} {R : Prog (TpuEff nD τ sig (Elt F) Λ₀ .tc) β} {Q : β → sProp 𝕄} :
    iprop(records m ρ K ∗ levAts L lv ∗ ow c 0 ∗ rxRes c s ∗ oPts c a)
      ⊢ iprop(((ow c 0 ∗ semVal (rcvCell c s) 0 ∗ rAny c s ∗ oPts c (accStep m ρ c s a)) -∗ WP c R Q)
        -∗ WP c (recvThen p q off inb hw R) Q) := by
  unfold recvThen
  subst hoff
  rw [dite_rest₅]
  exact recv_step m ρ K c s hp hsm rfl rfl rfl a (f := fun _ => R)

/-- The kernel receives from `s` exactly where `s` is another device. -/
theorem rcond_iff (s : Fin 8) : rcond c (BitVec.ofNat 32 s.val) = 1#1 ↔ (s : Dev nD) ≠ c := by revert c s; decide +kernel

abbrev P11 (v2 : BitVec 32) (v343 : BitVec 1) : Prog (TpuEff nD τ sig (Elt F) Λ₀ .tc) PUnit :=
  k0_part11 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9 v2 v343
abbrev P12 : Prog (TpuEff nD τ sig (Elt F) Λ₀ .tc) PUnit :=
  k0_part12 xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9

/-- The part's text as eight conditional receives and a wait. -/
theorem part11_eq (v2 : BitVec 32) (v343 : BitVec 1) : P11 (F := F) v2 v343 =
    recvThen (v343 = 1#1) ((cc0_scratch8.slice (Rect.unit (s := S8) ![0] S1.size inb_S8_S1_0)).squeeze S_ squeezes_S1_S_).sem ![0, 0, 0] inb_S8x64x512_S1x64x512_0_0_0
      (((Memref.isWhole_whole _).wordExact_slice rfl _ wordsbf16_S8x64x512_S1x64x512_0_0_0).reshape _ _) (
    recvThen ((Scalar.cmpi .ne (Scalar.extui (Scalar.cmpi .ne v2 1#32) : BitVec 32) 0#32 : BitVec 1) = 1#1) ((cc0_scratch8.slice (Rect.unit (s := S8) ![1] S1.size inb_S8_S1_1)).squeeze S_ squeezes_S1_S_).sem ![1, 0, 0] inb_S8x64x512_S1x64x512_1_0_0
      (((Memref.isWhole_whole _).wordExact_slice rfl _ wordsbf16_S8x64x512_S1x64x512_1_0_0).reshape _ _) (
    recvThen ((Scalar.cmpi .ne (Scalar.extui (Scalar.cmpi .ne v2 2#32) : BitVec 32) 0#32 : BitVec 1) = 1#1) ((cc0_scratch8.slice (Rect.unit (s := S8) ![2] S1.size inb_S8_S1_2)).squeeze S_ squeezes_S1_S_).sem ![2, 0, 0] inb_S8x64x512_S1x64x512_2_0_0
      (((Memref.isWhole_whole _).wordExact_slice rfl _ wordsbf16_S8x64x512_S1x64x512_2_0_0).reshape _ _) (
    recvThen ((Scalar.cmpi .ne (Scalar.extui (Scalar.cmpi .ne v2 3#32) : BitVec 32) 0#32 : BitVec 1) = 1#1) ((cc0_scratch8.slice (Rect.unit (s := S8) ![3] S1.size inb_S8_S1_3)).squeeze S_ squeezes_S1_S_).sem ![3, 0, 0] inb_S8x64x512_S1x64x512_3_0_0
      (((Memref.isWhole_whole _).wordExact_slice rfl _ wordsbf16_S8x64x512_S1x64x512_3_0_0).reshape _ _) (
    recvThen ((Scalar.cmpi .ne (Scalar.extui (Scalar.cmpi .ne v2 4#32) : BitVec 32) 0#32 : BitVec 1) = 1#1) ((cc0_scratch8.slice (Rect.unit (s := S8) ![4] S1.size inb_S8_S1_4)).squeeze S_ squeezes_S1_S_).sem ![4, 0, 0] inb_S8x64x512_S1x64x512_4_0_0
      (((Memref.isWhole_whole _).wordExact_slice rfl _ wordsbf16_S8x64x512_S1x64x512_4_0_0).reshape _ _) (
    recvThen ((Scalar.cmpi .ne (Scalar.extui (Scalar.cmpi .ne v2 5#32) : BitVec 32) 0#32 : BitVec 1) = 1#1) ((cc0_scratch8.slice (Rect.unit (s := S8) ![5] S1.size inb_S8_S1_5)).squeeze S_ squeezes_S1_S_).sem ![5, 0, 0] inb_S8x64x512_S1x64x512_5_0_0
      (((Memref.isWhole_whole _).wordExact_slice rfl _ wordsbf16_S8x64x512_S1x64x512_5_0_0).reshape _ _) (
    recvThen ((Scalar.cmpi .ne (Scalar.extui (Scalar.cmpi .ne v2 6#32) : BitVec 32) 0#32 : BitVec 1) = 1#1) ((cc0_scratch8.slice (Rect.unit (s := S8) ![6] S1.size inb_S8_S1_6)).squeeze S_ squeezes_S1_S_).sem ![6, 0, 0] inb_S8x64x512_S1x64x512_6_0_0
      (((Memref.isWhole_whole _).wordExact_slice rfl _ wordsbf16_S8x64x512_S1x64x512_6_0_0).reshape _ _) (
    recvThen ((Scalar.cmpi .ne (Scalar.extui (Scalar.cmpi .ne v2 7#32) : BitVec 32) 0#32 : BitVec 1) = 1#1) ((cc0_scratch8.slice (Rect.unit (s := S8) ![7] S1.size inb_S8_S1_7)).squeeze S_ squeezes_S1_S_).sem ![7, 0, 0] inb_S8x64x512_S1x64x512_7_0_0
      (((Memref.isWhole_whole _).wordExact_slice rfl _ wordsbf16_S8x64x512_S1x64x512_7_0_0).reshape _ _) (
    .op (.waitDma2 ((cc0_scratch7.slice (Rect.unit (s := S7) ![0] S1.size inb_S7_S1_0)).squeeze S_ squeezes_S1_S_).sem
      ((sM.slice (Rect.unit (s := S7x64x512) ![0, 0, 0] S1x64x512.size inb_S7x64x512_S1x64x512_0_0_0) (fun _ => rfl)).squeeze S64x512 squeezes_S1x64x512_S64x512)
      ((sM.slice (Rect.unit (s := S7x64x512) ![0, 0, 0] S1x64x512.size inb_S7x64x512_S1x64x512_0_0_0) (fun _ => rfl)).squeeze S64x512 squeezes_S1x64x512_S64x512)
      (((Memref.isWhole_whole _).wordExact_slice rfl _ wordsbf16_S7x64x512_S1x64x512_0_0_0).reshape _ _) (((Memref.isWhole_whole _).wordExact_slice rfl _ wordsbf16_S7x64x512_S1x64x512_0_0_0).reshape _ _)) .ret)))))))) := by
  unfold P11
  simp only [k0_part11_eq_skeleton]
  rfl

/-- The eight conditional receives, then the wait for the first send. -/
theorem part11_spec {α : Type} {Q : α → sProp 𝕄} {kk : PUnit → Prog (TpuEff nD τ sig (Elt F) Λ₀ .tc) α} :
    iprop(records m ρ K ∗ levAts L lv ∗ ow c 0 ∗ (rxRes c 0 ∗ rxRes c 1 ∗ rxRes c 2 ∗ rxRes c 3 ∗ rxRes c 4 ∗ rxRes c 5 ∗ rxRes c 6 ∗ rxRes c 7)
        ∗ oPts c (out0 m ρ c) ∗ sndIn c 0)
      ⊢ iprop(((ow c 0 ∗ (rcvOut c 0 ∗ rcvOut c 1 ∗ rcvOut c 2 ∗ rcvOut c 3 ∗ rcvOut c 4 ∗ rcvOut c 5 ∗ rcvOut c 6 ∗ rcvOut c 7) ∗ oPts c (outC m ρ c) ∗ sndOut c 0)
            -∗ WP c (kk ⟨⟩) Q)
        -∗ WP c (P11 (w2 c) (rcond c 0#32) >>= kk) Q) := by
  rw [part11_eq]
  simp only [recvThen_bind, Prog.bind_op, Prog.bind_ret]
  unfold outC rcvOut
  iintro ⟨#HR, #Hlev, HO, ⟨R0, R1, R2, R3, R4, R5, R6, R7⟩, Ho, S0⟩ Hk
  iapply (recvThen_step m ρ K c 0 (rcond_iff c 0) (by decide) rfl _) $$ [HO R0 Ho]
  · isplitr; · iexact HR
    isplitr; · iexact Hlev
    isplitl [HO]; · iexact HO
    isplitl [R0]; · iexact R0
    iexact Ho
  iintro ⟨HO, Z0, R0, Ho⟩
  iapply (recvThen_step m ρ K c 1 (rcond_iff c 1) (by decide) rfl _) $$ [HO R1 Ho]
  · isplitr; · iexact HR
    isplitr; · iexact Hlev
    isplitl [HO]; · iexact HO
    isplitl [R1]; · iexact R1
    iexact Ho
  iintro ⟨HO, Z1, R1, Ho⟩
  iapply (recvThen_step m ρ K c 2 (rcond_iff c 2) (by decide) rfl _) $$ [HO R2 Ho]
  · isplitr; · iexact HR
    isplitr; · iexact Hlev
    isplitl [HO]; · iexact HO
    isplitl [R2]; · iexact R2
    iexact Ho
  iintro ⟨HO, Z2, R2, Ho⟩
  iapply (recvThen_step m ρ K c 3 (rcond_iff c 3) (by decide) rfl _) $$ [HO R3 Ho]
  · isplitr; · iexact HR
    isplitr; · iexact Hlev
    isplitl [HO]; · iexact HO
    isplitl [R3]; · iexact R3
    iexact Ho
  iintro ⟨HO, Z3, R3, Ho⟩
  iapply (recvThen_step m ρ K c 4 (rcond_iff c 4) (by decide) rfl _) $$ [HO R4 Ho]
  · isplitr; · iexact HR
    isplitr; · iexact Hlev
    isplitl [HO]; · iexact HO
    isplitl [R4]; · iexact R4
    iexact Ho
  iintro ⟨HO, Z4, R4, Ho⟩
  iapply (recvThen_step m ρ K c 5 (rcond_iff c 5) (by decide) rfl _) $$ [HO R5 Ho]
  · isplitr; · iexact HR
    isplitr; · iexact Hlev
    isplitl [HO]; · iexact HO
    isplitl [R5]; · iexact R5
    iexact Ho
  iintro ⟨HO, Z5, R5, Ho⟩
  iapply (recvThen_step m ρ K c 6 (rcond_iff c 6) (by decide) rfl _) $$ [HO R6 Ho]
  · isplitr; · iexact HR
    isplitr; · iexact Hlev
    isplitl [HO]; · iexact HO
    isplitl [R6]; · iexact R6
    iexact Ho
  iintro ⟨HO, Z6, R6, Ho⟩
  iapply (recvThen_step m ρ K c 7 (rcond_iff c 7) (by decide) rfl _) $$ [HO R7 Ho]
  · isplitr; · iexact HR
    isplitr; · iexact Hlev
    isplitl [HO]; · iexact HO
    isplitl [R7]; · iexact R7
    iexact Ho
  iintro ⟨HO, Z7, R7, Ho⟩
  iapply (swait_step m ρ K c 0 (by decide) (credit_sRow 0)) $$ [HO S0]
  · isplitr; · iexact HR
    isplitr; · iexact Hlev
    isplitl [HO]; · iexact HO
    iexact S0
  iintro ⟨HO, S0⟩
  iapply Hk
  isplitl [HO]; · iexact HO
  isplitl [Z0 R0 Z1 R1 Z2 R2 Z3 R3 Z4 R4 Z5 R5 Z6 R6 Z7 R7]
  · isplitl [Z0 R0]; · isplitl [Z0] <;> iassumption
    isplitl [Z1 R1]; · isplitl [Z1] <;> iassumption
    isplitl [Z2 R2]; · isplitl [Z2] <;> iassumption
    isplitl [Z3 R3]; · isplitl [Z3] <;> iassumption
    isplitl [Z4 R4]; · isplitl [Z4] <;> iassumption
    isplitl [Z5 R5]; · isplitl [Z5] <;> iassumption
    isplitl [Z6 R6]; · isplitl [Z6] <;> iassumption
    isplitl [Z7] <;> iassumption
  isplitl [Ho]; · iexact Ho
  iexact S0

/-- The waits for the second to fourth send. -/
theorem part12_spec {α : Type} {Q : α → sProp 𝕄} {kk : PUnit → Prog (TpuEff nD τ sig (Elt F) Λ₀ .tc) α} :
    iprop(records m ρ K ∗ levAts L lv ∗ ow c 0 ∗ sndIn c 1 ∗ sndIn c 2 ∗ sndIn c 3)
      ⊢ iprop(((ow c 0 ∗ sndOut c 1 ∗ sndOut c 2 ∗ sndOut c 3) -∗ WP c (kk ⟨⟩) Q)
        -∗ WP c (P12 >>= kk) Q) := by
  unfold P12
  simp only [k0_part12_eq_skeleton]
  unfold k0_part12_skel
  simp only [Prog.lift, Prog.bind_op, Prog.bind_ret, Prog.pure_eq_ret]
  iintro ⟨#HR, #Hlev, HO, S1, S2, S3⟩ Hk
  iapply (swait_step m ρ K c 1 (by decide) (credit_sRow 1)) $$ [HO S1]
  · isplitr; · iexact HR
    isplitr; · iexact Hlev
    isplitl [HO]; · iexact HO
    iexact S1
  iintro ⟨HO, S1⟩
  iapply (swait_step m ρ K c 2 (by decide) (credit_sRow 2)) $$ [HO S2]
  · isplitr; · iexact HR
    isplitr; · iexact Hlev
    isplitl [HO]; · iexact HO
    iexact S2
  iintro ⟨HO, S2⟩
  iapply (swait_step m ρ K c 3 (by decide) (credit_sRow 3)) $$ [HO S3]
  · isplitr; · iexact HR
    isplitr; · iexact Hlev
    isplitl [HO]; · iexact HO
    iexact S3
  iintro ⟨HO, S3⟩
  iapply Hk
  isplitl [HO]; · iexact HO
  isplitl [S1]; · iexact S1
  isplitl [S2]; · iexact S2
  iexact S3

end Cert.Moe

end
-- ==== Proof.Body.lean ====
/-
The whole body of the kernel on one device: its parts one after another.
-/
module

public import proofs.«01_k».proof.Proof.PartC
public import proofs.«01_k».proof.Proof.Gen.KernelIdeal.Points
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × J → ℕ) (c : Dev nD)

omit [FloatOps F] in
/-- A separating product over three indices, written out. -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- A separating product over seven indices, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) := bigSep_univ_eq_bigSepL [0, 1, 2, 3, 4, 5, 6] (by decide) (by decide) Φ
omit [FloatOps F] in
/-- A separating product over eight indices, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ
omit [FloatOps F] in
/-- Something held for each cell of a device, by the kinds of cells. -/
theorem bigSep_J (Φ : J → sProp 𝕄) : bigSep Finset.univ Φ
    = iprop((bigSep Finset.univ fun k : Fin 7 => Φ (jS k)) ∗ (bigSep Finset.univ fun s : Fin 8 => Φ (jR s)) ∗ (bigSep Finset.univ fun j : Fin 3 => Φ (jL j)) ∗ Φ jB) := by
  rw [bigSep_univ_sum, bigSep_univ_sum, bigSep_univ_sum, bigSep_univ_eq_bigSepL [()] (by decide) (by decide)]; rfl

/-! ### What the body starts from and ends in -/

/-- The duties device `c` pays. -/
def payToks : sProp 𝕄 :=
  iprop((bigSep Finset.univ fun d : Dev nD => dutyTok ER (barCell d) 0 c) ∗ (bigSep Finset.univ fun k : Fin 7 => dutyTok ER (sndCell c k) 0 c)
    ∗ (bigSep Finset.univ fun k : Fin 7 => dutyTok ER (rcvCell (tgt c k) c) 0 c) ∗ bigSep Finset.univ fun j : Fin 3 => dutyTok ER (lodCell c j) 0 c)
/-- Its positions in its own cells. -/
def poss : sProp 𝕄 := bigSep Finset.univ fun j : J => atPos ER (kcell (c, j)) 0 ∅ 0
/-- The credits it waits with that others pay. -/
def credR (s : Dev nD) : sProp 𝕄 := if s = c then iprop(emp) else cred (tallyAt (rcvCell c s) () N)
def creds : sProp 𝕄 := iprop(cred (tallyAt (barCell c) () 7) ∗ bigSep Finset.univ fun s : Fin 8 => credR c s)
/-- Its cells closed. -/
def zeros : sProp 𝕄 := bigSep Finset.univ fun j : J => semVal (kcell (c, j)) 0

/-- For each device: the token and the row the signal to it takes, and what the receive from it takes. -/
theorem mix (s : Dev nD) : iprop(dutyTok ER (barCell s) 0 c ∗ rAny c s ∗ atPos ER (rcvCell c s) 0 ∅ 0 ∗ credR c s) ⊢ (iprop(sigRes c s ∗ rxRes c s) : sProp 𝕄) := by
  unfold sigRes rxRes credR
  by_cases h : s = c
  · simp only [if_pos h]
    iintro ⟨-, Hr, Ha, -⟩
    isplitr; · iempintro
    isplitl [Ha] <;> iassumption
  · simp only [if_neg h]
    iintro ⟨Ht, Hr, Ha, Hc⟩
    isplitl [Ht Hr]
    · isplitl [Ht] <;> iassumption
    isplitl [Ha] <;> iassumption

/-- All devices' barrier tokens, rows, positions and credits of device `c`, sorted into what its signals and its receives use. -/
theorem mix_all : iprop((bigSep Finset.univ fun s : Dev nD => dutyTok ER (barCell s) 0 c) ∗ (bigSep Finset.univ fun s : Fin 8 => rAny c s)
      ∗ (bigSep Finset.univ fun s : Fin 8 => atPos ER (rcvCell c s) 0 ∅ 0) ∗ (bigSep Finset.univ fun s : Fin 8 => credR c s))
    ⊢ (iprop((bigSep Finset.univ fun s : Fin 8 => sigRes c s) ∗ bigSep Finset.univ fun s : Fin 8 => rxRes c s) : sProp 𝕄) := by
  rw [← bigSep_sep', ← bigSep_sep', ← bigSep_sep', ← bigSep_sep']
  exact bigSep_mono fun s _ => mix c s

/-- The landing rows on the targets, by send row. -/
theorem rows_by_row : (bigSep (Finset.univ.erase c) fun d => rAny d c : sProp 𝕄) = iprop(rAny (tgt c 0) c ∗ rAny (tgt c 1) c ∗ rAny (tgt c 2) c ∗ rAny (tgt c 3) c ∗ rAny (tgt c 4) c ∗ rAny (tgt c 5) c ∗ rAny (tgt c 6) c) := by
  rw [tgt_image, bigSep_map, bigSep_fin7]; rfl

def bodyIn : sProp 𝕄 :=
  iprop(records m ρ K ∗ levAts L lv ∗ ow c (oB c 8) ∗ (bigSep Finset.univ fun k : Fin 7 => sAny c k) ∗ (bigSep Finset.univ fun s : Fin 8 => rAny c s)
    ∗ dAny c ∗ yAny c ∗ (lodIn m c 0 ∗ lodIn m c 1 ∗ lodIn m c 2) ∗ poss c ∗ payToks c ∗ creds c ∗ gPts m ρ c ∗ iPts m ρ c ∗ oAny c)
def bodyOut : sProp 𝕄 :=
  iprop(ow c 0 ∗ zeros c ∗ (bigSep Finset.univ fun k : Fin 7 => sAny c k) ∗ (bigSep Finset.univ fun s : Fin 8 => rAny c s)
    ∗ (dPts m ρ c ∗ yPts m ρ c ∗ xPts m c ∗ ePts m c ∗ wPts m c) ∗ (hPts m c 0 ∗ hPts m c 1 ∗ hPts m c 2) ∗ gPts m ρ c ∗ iPts m ρ c ∗ oPts c (outC m ρ c))

set_option maxHeartbeats 1600000 in
/-- The body, part after part. -/
theorem body_spec (Q : PUnit → sProp 𝕄) :
    bodyIn m ρ K c ⊢ iprop((bodyOut m ρ c -∗ Q ⟨⟩) -∗ WP c (cc0_body xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9) Q) := by
  simp only [cc0_body_eq_skeleton]
  unfold cc0_body_skel bodyIn
  iintro ⟨#HR, #Hlev, HO, Hs, Hr, Hd, Hy, HL, HP, HT, HC, Hg, Hi, Ho⟩ Hk
  unfold poss payToks creds
  icases HT with ⟨TB, TS, TR, TL⟩
  icases HC with ⟨CB, CR⟩
  ihave HP := (Entails.of_eq (bigSep_J (F := F) fun j : J => atPos ER (kcell (c, j)) 0 ∅ 0)) $$ HP
  icases HP with ⟨PS, PR, PL, PB⟩
  ihave M := (mix_all (F := F) c) $$ [TB Hr PR CR]
  · isplitl [TB]; · iexact TB
    isplitl [Hr]; · iexact Hr
    isplitl [PR]; · iexact PR
    iexact CR
  icases M with ⟨SG, RX⟩
  ihave SG := (Entails.of_eq (bigSep_fin8 (F := F) fun s : Fin 8 => sigRes c s)) $$ SG
  icases SG with ⟨SG0, SG1, SG2, SG3, SG4, SG5, SG6, SG7⟩
  ihave TL := (Entails.of_eq (bigSep_fin3 (F := F) fun j : Fin 3 => dutyTok ER (lodCell c j) 0 c)) $$ TL
  ihave PL := (Entails.of_eq (bigSep_fin3 (F := F) fun j : Fin 3 => atPos ER (kcell (c, jL j)) 0 ∅ 0)) $$ PL
  icases PL with ⟨PL0, PL1, PL2⟩
  iapply (part1_spec m ρ K c) $$ [HO HL TL SG0 SG1 SG2 SG3 SG4 SG5]
  · isplitr; · iexact HR
    isplitl [HO]; · iexact HO
    isplitl [HL]; · iexact HL
    isplitl [TL]; · iexact TL
    isplitl [SG0]; · iexact SG0
    isplitl [SG1]; · iexact SG1
    isplitl [SG2]; · iexact SG2
    isplitl [SG3]; · iexact SG3
    isplitl [SG4]; · iexact SG4
    iexact SG5
  iintro ⟨HO, CL0, CL1, CL2⟩
  iapply (part2_spec m ρ K c) $$ [HO SG6 SG7 CB PB CL0 PL0 Hg Hi]
  · isplitr; · iexact HR
    isplitr; · iexact Hlev
    isplitl [HO]; · iexact HO
    isplitl [SG6]; · iexact SG6
    isplitl [SG7]; · iexact SG7
    isplitl [CB PB]; · isplitl [CB]; · iexact CB
                       iexact PB
    isplitl [CL0 PL0]; · isplitl [CL0]; · iexact CL0
                         iexact PL0
    isplitl [Hg] <;> iassumption
  iintro ⟨HO, ZB, HX, ZL0, Hx, Hh0, Hg, Hi⟩
  iapply (part3_spec m ρ K c) $$ [HO CL1 PL1 Hd Hy]
  · isplitr; · iexact HR
    isplitr; · iexact Hlev
    isplitl [HO]; · iexact HO
    isplitl [CL1 PL1]; · isplitl [CL1]; · iexact CL1
                         iexact PL1
    isplitl [Hd] <;> iassumption
  iintro %v3 %w3 ⟨HO, ZL1, He, Hh1, Hd, Hy⟩
  ihave HX := (Entails.of_eq (rows_by_row (F := F) c)) $$ HX
  icases HX with ⟨X0, X1, X2, X3, X4, X5, X6⟩
  ihave Hs := (Entails.of_eq (bigSep_fin7 (F := F) fun k : Fin 7 => sAny c k)) $$ Hs
  icases Hs with ⟨S0, S1, S2, S3, S4, S5, S6⟩
  ihave TS := (Entails.of_eq (bigSep_fin7 (F := F) fun k : Fin 7 => dutyTok ER (sndCell c k) 0 c)) $$ TS
  icases TS with ⟨TS0, TS1, TS2, TS3, TS4, TS5, TS6⟩
  ihave TR := (Entails.of_eq (bigSep_fin7 (F := F) fun k : Fin 7 => dutyTok ER (rcvCell (tgt c k) c) 0 c)) $$ TR
  icases TR with ⟨TR0, TR1, TR2, TR3, TR4, TR5, TR6⟩
  ihave PS := (Entails.of_eq (bigSep_fin7 (F := F) fun k : Fin 7 => atPos ER (kcell (c, jS k)) 0 ∅ 0)) $$ PS
  icases PS with ⟨PS0, PS1, PS2, PS3, PS4, PS5, PS6⟩
  iapply (part4_spec m ρ K c v3 w3) $$ [HO S0 X0 TS0 TR0 Hy Hd]
  · isplitr; · iexact HR
    isplitl [HO]; · iexact HO
    isplitl [S0 X0 TS0 TR0]
    · unfold txRes
      isplitl [S0]; · iexact S0
      isplitl [X0]; · iexact X0
      isplitl [TS0] <;> iassumption
    isplitl [Hy] <;> iassumption
  iintro %v4 %w4 ⟨HO, CS0, Hy, Hd⟩
  iapply (part5_spec m ρ K c v4 w4) $$ [HO S1 X1 TS1 TR1 Hy Hd]
  · isplitr; · iexact HR
    isplitl [HO]; · iexact HO
    isplitl [S1 X1 TS1 TR1]
    · unfold txRes
      isplitl [S1]; · iexact S1
      isplitl [X1]; · iexact X1
      isplitl [TS1] <;> iassumption
    isplitl [Hy] <;> iassumption
  iintro %v5 %w5 ⟨HO, CS1, Hy, Hd⟩
  iapply (part6_spec m ρ K c v5 w5) $$ [HO S2 X2 TS2 TR2 Hy Hd]
  · isplitr; · iexact HR
    isplitl [HO]; · iexact HO
    isplitl [S2 X2 TS2 TR2]
    · unfold txRes
      isplitl [S2]; · iexact S2
      isplitl [X2]; · iexact X2
      isplitl [TS2] <;> iassumption
    isplitl [Hy] <;> iassumption
  iintro %v6 %w6 ⟨HO, CS2, Hy, Hd⟩
  iapply (part7_spec m ρ K c v6 w6) $$ [HO S3 X3 TS3 TR3 Hy Hd]
  · isplitr; · iexact HR
    isplitl [HO]; · iexact HO
    isplitl [S3 X3 TS3 TR3]
    · unfold txRes
      isplitl [S3]; · iexact S3
      isplitl [X3]; · iexact X3
      isplitl [TS3] <;> iassumption
    isplitl [Hy] <;> iassumption
  iintro %v7 ⟨HO, CS3, Hy, Hd⟩
  iapply (part8_spec m ρ K c v7) $$ [HO S4 X4 TS4 TR4 Hy Hd]
  · isplitr; · iexact HR
    isplitl [HO]; · iexact HO
    isplitl [S4 X4 TS4 TR4]
    · unfold txRes
      isplitl [S4]; · iexact S4
      isplitl [X4]; · iexact X4
      isplitl [TS4] <;> iassumption
    isplitl [Hy] <;> iassumption
  iintro %v8 ⟨HO, CS4, Hy, Hd⟩
  iapply (part9_spec m ρ K c v8) $$ [HO S5 X5 TS5 TR5 Hy Hd]
  · isplitr; · iexact HR
    isplitl [HO]; · iexact HO
    isplitl [S5 X5 TS5 TR5]
    · unfold txRes
      isplitl [S5]; · iexact S5
      isplitl [X5]; · iexact X5
      isplitl [TS5] <;> iassumption
    isplitl [Hy] <;> iassumption
  iintro %v9 ⟨HO, CS5, Hy, Hd⟩
  iapply (part10_spec m ρ K c v9) $$ [HO S6 X6 TS6 TR6 Hy Hd CL2 PL2 Hx Ho]
  · isplitr; · iexact HR
    isplitr; · iexact Hlev
    isplitl [HO]; · iexact HO
    isplitl [S6 X6 TS6 TR6]
    · unfold txRes
      isplitl [S6]; · iexact S6
      isplitl [X6]; · iexact X6
      isplitl [TS6] <;> iassumption
    isplitl [Hy]; · iexact Hy
    isplitl [Hd]; · iexact Hd
    isplitl [CL2 PL2]; · isplitl [CL2]; · iexact CL2
                         iexact PL2
    isplitl [Hx] <;> iassumption
  iintro ⟨HO, CS6, Hy, Hd, ZL2, Hw, Hh2, Hx, Ho⟩
  ihave RX := (Entails.of_eq (bigSep_fin8 (F := F) fun s : Fin 8 => rxRes c s)) $$ RX
  iapply (part11_spec m ρ K c) $$ [HO RX Ho CS0 PS0]
  · isplitr; · iexact HR
    isplitr; · iexact Hlev
    isplitl [HO]; · iexact HO
    isplitl [RX]; · iexact RX
    isplitl [Ho]; · iexact Ho
    unfold sndIn; isplitl [CS0]; · iexact CS0
    iexact PS0
  iintro ⟨HO, RX, Ho, S0⟩
  iapply (part12_spec m ρ K c) $$ [HO CS1 PS1 CS2 PS2 CS3 PS3]
  · isplitr; · iexact HR
    isplitr; · iexact Hlev
    isplitl [HO]; · iexact HO
    unfold sndIn
    isplitl [CS1 PS1]; · isplitl [CS1]; · iexact CS1
                         iexact PS1
    isplitl [CS2 PS2]; · isplitl [CS2]; · iexact CS2
                         iexact PS2
    isplitl [CS3]; · iexact CS3
    iexact PS3
  iintro ⟨HO, S1, S2, S3⟩
  iapply (swait_step m ρ K c 4 (by decide) (credit_sRow 4)) $$ [HO CS4 PS4]
  · isplitr; · iexact HR
    isplitr; · iexact Hlev
    isplitl [HO]; · iexact HO
    unfold sndIn; isplitl [CS4]; · iexact CS4
    iexact PS4
  iintro ⟨HO, S4⟩
  iapply (swait_step m ρ K c 5 (by decide) (credit_sRow 5)) $$ [HO CS5 PS5]
  · isplitr; · iexact HR
    isplitr; · iexact Hlev
    isplitl [HO]; · iexact HO
    unfold sndIn; isplitl [CS5]; · iexact CS5
    iexact PS5
  iintro ⟨HO, S5⟩
  iapply (swait_step m ρ K c 6 (by decide) (credit_sRow 6)) $$ [HO CS6 PS6]
  · isplitr; · iexact HR
    isplitr; · iexact Hlev
    isplitl [HO]; · iexact HO
    unfold sndIn; isplitl [CS6]; · iexact CS6
    iexact PS6
  iintro ⟨HO, S6⟩
  rw [show ((Prog.ret PUnit.unit).bind fun _ => Pure.pure PUnit.unit : Prog (TpuEff nD τ sig (Elt F) Λ₀ .tc) PUnit) = .ret ⟨⟩ from rfl]; unfold WP; rw [wp_ret]; imodintro
  iapply Hk
  unfold bodyOut zeros
  ihave SO := (show iprop(sndOut c 0 ∗ sndOut c 1 ∗ sndOut c 2 ∗ sndOut c 3 ∗ sndOut c 4 ∗ sndOut c 5 ∗ sndOut c 6) ⊢ (iprop((bigSep Finset.univ fun k : Fin 7 => semVal (kcell (c, jS k)) 0) ∗ bigSep Finset.univ fun k : Fin 7 => sAny c k) : sProp 𝕄) from by
    rw [← bigSep_sep', bigSep_fin7]; exact .rfl) $$ [S0 S1 S2 S3 S4 S5 S6]
  · isplitl [S0]; · iexact S0
    isplitl [S1]; · iexact S1
    isplitl [S2]; · iexact S2
    isplitl [S3]; · iexact S3
    isplitl [S4]; · iexact S4
    isplitl [S5] <;> iassumption
  icases SO with ⟨ZS, Hs⟩
  ihave RO := (show iprop(rcvOut c 0 ∗ rcvOut c 1 ∗ rcvOut c 2 ∗ rcvOut c 3 ∗ rcvOut c 4 ∗ rcvOut c 5 ∗ rcvOut c 6 ∗ rcvOut c 7) ⊢ (iprop((bigSep Finset.univ fun s : Fin 8 => semVal (kcell (c, jR s)) 0) ∗ bigSep Finset.univ fun s : Fin 8 => rAny c s) : sProp 𝕄) from by
    rw [← bigSep_sep', bigSep_fin8]; exact .rfl) $$ RX
  icases RO with ⟨ZR, Hr⟩
  isplitl [HO]; · iexact HO
  isplitl [ZS ZR ZL0 ZL1 ZL2 ZB]
  · rw [bigSep_J, bigSep_fin3]
    isplitl [ZS]; · iexact ZS
    isplitl [ZR]; · iexact ZR
    isplitl [ZL0 ZL1 ZL2]
    · isplitl [ZL0]; · iexact ZL0
      isplitl [ZL1]; · iexact ZL1
      iexact ZL2
    iexact ZB
  isplitl [Hs]; · iexact Hs
  isplitl [Hr]; · iexact Hr
  isplitl [Hd Hy Hx He Hw]
  · isplitl [Hd]; · iexact Hd
    isplitl [Hy]; · iexact Hy
    isplitl [Hx]; · iexact Hx
    isplitl [He] <;> iassumption
  isplitl [Hh0 Hh1 Hh2]
  · isplitl [Hh0]; · iexact Hh0
    isplitl [Hh1] <;> iassumption
  isplitl [Hg]; · iexact Hg
  isplitl [Hi] <;> iassumption

end Cert.Moe

end
-- ==== Proof.Point.lean ====
/-
The body as the pipeline asks for it: what a device holds before its one grid point and after, and the step between.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The scratch buffers, by rows where the protocol hands rows around -/

/-- The kernel's scratch memory: send and receive buffer by rows, the other five whole, all at any contents. -/
def scr (c : Dev nD) : sProp 𝕄 :=
  iprop((bigSep Finset.univ fun k : Fin 7 => sAny c k) ∗ (bigSep Finset.univ fun s : Fin 8 => rAny c s) ∗ dAny c ∗ yAny c
    ∗ (∃ f, (c : Thread nD τ).loc cc0_scratch4 ↦{fullShare} f) ∗ (∃ f, (c : Thread nD τ).loc cc0_scratch5 ↦{fullShare} f)
    ∗ ∃ f, (c : Thread nD τ).loc cc0_scratch6 ↦{fullShare} f)

/-- Row `k`'s elements of the send buffer. -/
theorem sR_set (k : Fin 7) : (sM.access (sR k)).set = (sR k).set := View.set_slice_whole _ _
/-- Distinct rows of the send buffer are disjoint. -/
theorem sR_disjoint (k k' : Fin 7) (h : k ≠ k') : Disjoint (sR k).set (sR k').set :=
  Ring.lead_disjoint (s := S7x64x512) (NB := 7) (0 : Fin 3) 1 (fun k => ![k.val, 0, 0]) S1x64x512.size inbS (fun b => (Nat.one_mul _).symm) rfl k k' h
/-- The seven rows make up the send buffer. -/
theorem sR_cover : (Finset.univ : Finset (Fin 7)).biUnion (fun k => (sR k).set) = Finset.univ :=
  Ring.lead_cover (s := S7x64x512) (NB := 7) (0 : Fin 3) 1 (fun k => ![k.val, 0, 0]) S1x64x512.size inbS (fun b => (Nat.one_mul _).symm)
    (fun b a ha => by fin_cases a; exacts [absurd rfl ha, rfl, rfl]) rfl (fun a ha => by fin_cases a; exacts [absurd rfl ha, rfl, rfl]) rfl
/-- The send buffer splits into its rows, -/
theorem s_split (c : Dev nD) (f : Buf (Elt F) ((c : Thread nD τ).loc cc0_scratch0)) :
    ((c : Thread nD τ).loc cc0_scratch0 ↦{fullShare} f : sProp 𝕄) ⊢ bigSep Finset.univ fun k : Fin 7 => sAny c k := by
  rw [Ring.pointsTo_blocks (ℓ := (c : Thread nD τ).loc cc0_scratch0) (fun k : Fin 7 => (sR k).set) sR_disjoint sR_cover f]
  refine bigSep_mono fun k _ => ?_
  show (((c : Thread nD τ).loc cc0_scratch0 ↦[(sR k).set]{fullShare} f : sProp 𝕄) ⊢ sAny c k)
  unfold sAny sPts; rw [sR_set]; iintro H; iexists f; iexact H
/-- and the rows join again. -/
theorem s_join (c : Dev nD) : (bigSep Finset.univ fun k : Fin 7 => sAny c k : sProp 𝕄) ⊢ iprop(∃ f, (c : Thread nD τ).loc cc0_scratch0 ↦{fullShare} f) := by
  have h := Ring.pointsTo_blocks_join_exists (ℓ := (c : Thread nD τ).loc cc0_scratch0) (Ix := Unit) (Name := ℕ) (U := UU) (Lvl := ℕ) (Val := Elt F) (q := fullShare) (fun k : Fin 7 => (sR k).set) sR_disjoint sR_cover
  rw [bigSep_fin7] at h ⊢
  unfold sAny sPts; simp only [sR_set]
  iintro ⟨⟨%f, H0⟩, HR⟩
  iapply (h f)
  isplitl [H0]; · iexists f; iexact H0
  iexact HR
/-- Row `k`'s elements of the receive buffer. -/
theorem rR_set (k : Fin 8) : (rM.access (rR k)).set = (rR k).set := View.set_slice_whole _ _
/-- Distinct rows of the receive buffer are disjoint. -/
theorem rR_disjoint (k k' : Fin 8) (h : k ≠ k') : Disjoint (rR k).set (rR k').set :=
  Ring.lead_disjoint (s := S8x64x512) (NB := 8) (0 : Fin 3) 1 (fun k => ![k.val, 0, 0]) S1x64x512.size inbR (fun b => (Nat.one_mul _).symm) rfl k k' h
/-- The eight rows make up the receive buffer. -/
theorem rR_cover : (Finset.univ : Finset (Fin 8)).biUnion (fun k => (rR k).set) = Finset.univ :=
  Ring.lead_cover (s := S8x64x512) (NB := 8) (0 : Fin 3) 1 (fun k => ![k.val, 0, 0]) S1x64x512.size inbR (fun b => (Nat.one_mul _).symm)
    (fun b a ha => by fin_cases a; exacts [absurd rfl ha, rfl, rfl]) rfl (fun a ha => by fin_cases a; exacts [absurd rfl ha, rfl, rfl]) rfl
/-- The receive buffer splits into its rows, -/
theorem r_split (c : Dev nD) (f : Buf (Elt F) ((c : Thread nD τ).loc cc0_scratch1)) :
    ((c : Thread nD τ).loc cc0_scratch1 ↦{fullShare} f : sProp 𝕄) ⊢ bigSep Finset.univ fun k : Fin 8 => rAny c k := by
  rw [Ring.pointsTo_blocks (ℓ := (c : Thread nD τ).loc cc0_scratch1) (fun k : Fin 8 => (rR k).set) rR_disjoint rR_cover f]
  refine bigSep_mono fun k _ => ?_
  show (((c : Thread nD τ).loc cc0_scratch1 ↦[(rR k).set]{fullShare} f : sProp 𝕄) ⊢ rAny c k)
  unfold rAny rPts; rw [rR_set]; iintro H; iexists f; iexact H
/-- and the rows join again. -/
theorem r_join (c : Dev nD) : (bigSep Finset.univ fun k : Fin 8 => rAny c k : sProp 𝕄) ⊢ iprop(∃ f, (c : Thread nD τ).loc cc0_scratch1 ↦{fullShare} f) := by
  have h := Ring.pointsTo_blocks_join_exists (ℓ := (c : Thread nD τ).loc cc0_scratch1) (Ix := Unit) (Name := ℕ) (U := UU) (Lvl := ℕ) (Val := Elt F) (q := fullShare) (fun k : Fin 8 => (rR k).set) rR_disjoint rR_cover
  rw [bigSep_fin8] at h ⊢
  unfold rAny rPts; simp only [rR_set]
  iintro ⟨⟨%f, H0⟩, HR⟩
  iapply (h f)
  isplitl [H0]; · iexists f; iexact H0
  iexact HR

/-- The launch's scratch memory is the kernel's, -/
theorem scr_intro (c : Dev nD) : (Pipeline.scopedRest spec0 c : sProp 𝕄) ⊢ scr c := by
  rw [scopedRest0_eq]
  iintro ⟨⟨%f0, H0⟩, ⟨%f1, H1⟩, H2, H3, H4, H5, H6⟩
  ihave H0 := (s_split c f0) $$ H0
  ihave H1 := (r_split c f1) $$ H1
  unfold scr dAny yAny
  isplitl [H0]; · iexact H0
  isplitl [H1]; · iexact H1
  isplitl [H2]; · iexact H2
  isplitl [H3]; · iexact H3
  isplitl [H4]; · iexact H4
  isplitl [H5]; · iexact H5
  iexact H6
/-- and back. -/
theorem scr_exit (c : Dev nD) : (scr c : sProp 𝕄) ⊢ Pipeline.scopedRest spec0 c := by
  rw [scopedRest0_eq]
  unfold scr dAny yAny
  iintro ⟨H0, H1, H2, H3, H4, H5, H6⟩
  ihave H0 := (s_join c) $$ H0
  ihave H1 := (r_join c) $$ H1
  isplitl [H0]; · iexact H0
  isplitl [H1]; · iexact H1
  isplitl [H2]; · iexact H2
  isplitl [H3]; · iexact H3
  isplitl [H4]; · iexact H4
  isplitl [H5]; · iexact H5
  iexact H6

/-! ### Before and after the one grid point -/

/-- The inputs that no window stages. -/
def hbm (c : Dev nD) : sProp 𝕄 := iprop(hPts m c 0 ∗ hPts m c 1 ∗ hPts m c 2)
/-- The protocol's records, the device's positions and the duties it pays. -/
def ghost (c : Dev nD) : sProp 𝕄 := iprop(∃ K, records m ρ K ∗ poss c ∗ payToks c)
def start (c : Dev nD) : sProp 𝕄 := iprop(ghost m ρ c ∗ creds c ∗ levAts L lv ∗ hbm m c)
def Φ₀ (c : Dev nD) : sProp 𝕄 := iprop(start m ρ c ∗ scr c)
def Φ₁ (c : Dev nD) : sProp 𝕄 := iprop(zeros c ∗ scr c ∗ hbm m c)

/-- The proof data of the one pipeline: the two staged inputs stay, the staged output ends at the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gs m ρ c
    | ⟨1, _⟩ => is m ρ c
    | ⟨2, _⟩ => outC m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- Owning a whole buffer at given contents is a full points-to with those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (gs m ρ c) ∗ stg c cc0_stg1_0 (is m ρ c) ∗ stg c cc0_stg2_0 (outC m ρ c))

/-- What the pipeline hands over is what the body starts from, -/
theorem pre_bodyIn (c : Dev nD) : bodyPre m ρ c ⊢ iprop(∃ K, bodyIn m ρ K c) := by
  unfold bodyPre Φ₀ start ghost hbm hPts scr
  iintro ⟨⟨⟨⟨%K, HR, HP, HT⟩, HC, Hlev, H0, H1, H2⟩, Hs, Hr, Hd, Hy, Hx4, Hx5, Hx6⟩, Ho, ⟨%d0, %g0, %hg0, Hg⟩, ⟨%d1, %g1, %hg1, Hi⟩, ⟨%d2, %g2, %hg2, Hout⟩⟩
  have hx0 : g0 = gs m ρ c := by rw [hg0]; unfold Dat.before; rw [if_pos (fetch0_0 t0_0)]; rfl
  have hx1 : g1 = is m ρ c := by rw [hg1]; unfold Dat.before; rw [if_pos (fetch0_1 t0_0)]; rfl
  subst hx0; subst hx1
  unfold Dat.owesAt Pipeline.owesWithin
  icases Ho with ⟨%W, %hW, HO⟩
  rw [show (dats m ρ 0 c).owed t0_0.castSucc = O₀ c from rfl]
  iexists K
  unfold bodyIn ow lodIn gPts iPts oAny oPts O₀
  isplitl [HR]; · iexact HR
  isplitl [Hlev]; · iexact Hlev
  isplitl [HO]; · iexists W; iexact HO
  isplitl [Hs]; · iexact Hs
  isplitl [Hr]; · iexact Hr
  isplitl [Hd]; · iexact Hd
  isplitl [Hy]; · iexact Hy
  isplitl [H0 H1 H2 Hx4 Hx5 Hx6]
  · isplitl [H0 Hx4]
    · isplitl [H0]; · iexact H0
      iexact Hx4
    isplitl [H1 Hx5]
    · isplitl [H1]; · iexact H1
      iexact Hx5
    isplitl [H2]; · iexact H2
    iexact Hx6
  isplitl [HP]; · iexact HP
  isplitl [HT]; · iexact HT
  isplitl [HC]; · iexact HC
  isplitl [Hg]; · iexact Hg
  isplitl [Hi]; · iexact Hi
  iexists g2; iexact Hout

/-- and what the body ends in is what the pipeline takes back. -/
theorem bodyOut_post (c : Dev nD) : bodyOut m ρ c ⊢ bodyPost m ρ c := by
  unfold bodyOut bodyPost Φ₁ hbm scr ow dAny yAny dPts yPts xPts ePts wPts gPts iPts oPts Dat.owesAt Pipeline.owesWithin
  iintro ⟨⟨%W, HO⟩, HZ, Hs, Hr, ⟨Hd, Hy, Hx, He, Hw⟩, Hh, Hg, Hi, Ho⟩
  rw [show (dats m ρ 0 c).owed t0_0.succ = 0 from rfl]
  isplitl [HZ Hs Hr Hd Hy Hx He Hw Hh]
  · isplitl [HZ]; · iexact HZ
    isplitl [Hs Hr Hd Hy Hx He Hw]
    · isplitl [Hs]; · iexact Hs
      isplitl [Hr]; · iexact Hr
      isplitl [Hd]; · iexists _; iexact Hd
      isplitl [Hy]; · iexists _; iexact Hy
      isplitl [Hx]; · iexists _; iexact Hx
      isplitl [He]; · iexists _; iexact He
      iexists _; iexact Hw
    iexact Hh
  isplitl [HO]
  · iexists W
    isplitr; · ipureintro; exact fun _ _ => Or.inl trivial
    iexact HO
  isplitl [Hg]
  · iexists _; isplitr; · (ipureintro; rfl)
    iexact Hg
  isplitl [Hi]
  · iexists _; isplitr; · (ipureintro; rfl)
    iexact Hi
  iexists _; isplitr; · (ipureintro; rfl)
  iexact Ho

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body xM (Memref.isWhole_whole _) gM (Memref.isWhole_whole _) iM (Memref.isWhole_whole _) eM (Memref.isWhole_whole _) wM (Memref.isWhole_whole _) oM (Memref.isWhole_whole _) sM (Memref.isWhole_whole _) rM (Memref.isWhole_whole _) dM (Memref.isWhole_whole _) yM (Memref.isWhole_whole _) xV (Memref.isWhole_whole _) eV (Memref.isWhole_whole _) wV (Memref.isWhole_whole _) cc0_scratch7 cc0_scratch8 cc0_scratch9) (fun _ => bodyPost m ρ c)
  iintro H
  ihave H := (pre_bodyIn m ρ c) $$ H
  icases H with ⟨%K, H⟩
  iapply (body_spec m ρ K c fun _ => bodyPost m ρ c) $$ H
  iintro H
  iapply (bodyOut_post m ρ c); iexact H

end Cert.Moe

end
-- ==== Proof.Launch.lean ====
/-
The launch: the protocol's cells and duties dealt to the devices, what the devices owe each other, and the run of the whole mesh.
-/
module

public import proofs.«01_k».proof.Proof.Point
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Semaphores and duties -/

/-- The kernel's own scoped semaphores: send, receive, load. -/
abbrev OwnK : Type := Fin 7 ⊕ (Fin 8 ⊕ Fin 3)
def osem : OwnK → SemLoc sig
  | .inl k => csem (jS k)
  | .inr (.inl s) => csem (jR s)
  | .inr (.inr j) => csem (jL j)

/-- The kernel's own semaphores satisfy the launch's conditions on them. -/
theorem ownSemFacts : Pipeline.OwnSemFacts cfg0.spec osem := by decide

/-- Every window is held with the full share. -/
theorem share_eq (c : Dev nD) (w : Fin cfg0.W) : (dats m ρ 0 c).share w = fullShare := by unfold Dat.share; split <;> rfl

/-- Cells of distinct devices or kinds are distinct. -/
theorem kcell_injective : Function.Injective (kcell : Dev nD × J → GSem nD τ sig) := by
  rintro ⟨c, j⟩ ⟨c', j'⟩ h
  have h1 : c = c' := congrArg (fun g : GSem nD τ sig => g.1.1) h
  have h2 : j = j' := csem_injective (congrArg Prod.snd h)
  rw [h1, h2]
/-- All cells of the mesh. -/
def allCells : Finset (GSem nD τ sig) := Finset.univ.map ⟨kcell, kcell_injective⟩

/-- The duties one device pays: its signal to each device, each send's two, each local copy's. -/
abbrev T : Type := Fin 8 ⊕ (Fin 7 ⊕ (Fin 7 ⊕ Fin 3))
/-- The cell each of them is a duty of. -/
def duty (c : Dev nD) : T → Dev nD × J
  | .inl d => (d, jB)
  | .inr (.inl k) => (c, jS k)
  | .inr (.inr (.inl k)) => (tgt c k, jR c)
  | .inr (.inr (.inr j)) => (c, jL j)
/-- A device has at most one duty on each cell. -/
theorem duty_injective (c : Dev nD) : Function.Injective (duty c) := by
  rintro (d | k | k | j) (d' | k' | k' | j') h <;> have h2 := congrArg Prod.snd h <;> have h1 := congrArg Prod.fst h <;>
    dsimp only [duty] at h1 h2
  · rw [h1]
  · cases h2
  · cases h2
  · cases h2
  · cases h2
  · rw [Sum.inl.inj h2]
  · cases h2
  · cases h2
  · cases h2
  · cases h2
  · rw [tgt_inj c h1]
  · cases h2
  · cases h2
  · cases h2
  · cases h2
  · rw [Sum.inl.inj (Sum.inr.inj (Sum.inr.inj h2))]
abbrev tokOf (ct : Dev nD × T) : GSem nD τ sig × ℕ × Dev nD := (kcell (duty ct.1 ct.2), 0, ct.1)
/-- Distinct duties have distinct tokens. -/
theorem tokOf_injective : Function.Injective tokOf := by
  rintro ⟨c, t⟩ ⟨c', t'⟩ h
  have h1 : c = c' := congrArg (fun x : GSem nD τ sig × ℕ × Dev nD => x.2.2) h
  subst h1
  have h2 : t = t' := duty_injective c (kcell_injective (congrArg (fun x : GSem nD τ sig × ℕ × Dev nD => x.1) h))
  rw [h2]
def allToks : Finset (GSem nD τ sig × ℕ × Dev nD) := Finset.univ.map ⟨tokOf, tokOf_injective⟩

/-- The element the launch puts in: the pipeline's own and the protocol's. -/
def u₀ : UU :=
  (initOf (Pipeline.cells cfgs cellOf_inj) (Pipeline.launchToks cfgs cellOf_inj), initOf allCells allToks)

/-- What it deals device `c`. -/
def G (c : Dev nD) : sProp 𝕄 :=
  iprop((bigSep Finset.univ fun j : J => roundState ER (Rd m ρ) (kcell (c, j)) 0)
    ∗ (bigSep Finset.univ fun j : J => iprop(atPos ER (kcell (c, j)) 0 ∅ 0 ∗ reached ER (kcell (c, j)) 0)) ∗ payToks c)

/-- Something held for each duty of a device, by the kinds of duties. -/
theorem bigSep_T (Φ : T → sProp 𝕄) : bigSep Finset.univ Φ
    = iprop((bigSep Finset.univ fun d : Fin 8 => Φ (.inl d)) ∗ (bigSep Finset.univ fun k : Fin 7 => Φ (.inr (.inl k)))
      ∗ (bigSep Finset.univ fun k : Fin 7 => Φ (.inr (.inr (.inl k)))) ∗ bigSep Finset.univ fun j : Fin 3 => Φ (.inr (.inr (.inr j)))) := by
  rw [bigSep_univ_sum, bigSep_univ_sum, bigSep_univ_sum]; rfl

/-- The protocol's launch element, dealt. -/
theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : J => Φ (kcell (c, j)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => by unfold payToks; rw [bigSep_T]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The kernel's own semaphores, by kinds. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (kcell (c, jS k)) 0) ∗ (bigSep Finset.univ fun s : Fin 8 => semVal (kcell (c, jR s)) 0)
      ∗ bigSep Finset.univ fun j : Fin 3 => semVal (kcell (c, jL j)) 0) := by
  unfold Pipeline.ownSems0; rw [bigSep_univ_sum, bigSep_univ_sum]; rfl

/-- The cells at zero are the own semaphores and the barrier semaphore at zero; -/
theorem zeros_intro (c : Dev nD) :
    iprop(Pipeline.ownSems0 (Ix := Unit) (Name := ℕ) (U := UU) (Lvl := ℕ) (Val := Elt F) (τ := τ) osem c ∗ unscopedSems0 c) ⊢ (zeros c : sProp 𝕄) := by
  unfold zeros; rw [ownSems0_eq, unscopedSems0_eq, bigSep_J]
  iintro ⟨⟨HS, HR, HL⟩, HB⟩
  isplitl [HS]; · iexact HS
  isplitl [HR]; · iexact HR
  isplitl [HL]; · iexact HL
  iexact HB
/-- and conversely. -/
theorem zeros_exit (c : Dev nD) :
    (zeros c : sProp 𝕄) ⊢ iprop(Pipeline.ownSems0 (Ix := Unit) (Name := ℕ) (U := UU) (Lvl := ℕ) (Val := Elt F) (τ := τ) osem c ∗ unscopedSems0 c) := by
  unfold zeros; rw [ownSems0_eq, unscopedSems0_eq, bigSep_J]
  iintro ⟨HS, HR, HL, HB⟩
  isplitl [HS HR HL]
  · isplitl [HS]; · iexact HS
    isplitl [HR]; · iexact HR
    iexact HL
  iexact HB

/-- The invariants of a device's cells opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ payToks c) := by
  unfold G
  iintro ⟨Hos, Hus, Hst, Hat, Htok⟩
  ihave Hv := (zeros_intro (F := F) c) $$ [Hos Hus]
  · isplitl [Hos]; · iexact Hos
    iexact Hus
  imod (show iprop(zeros c ∗ bigSep Finset.univ fun j : J => roundState ER (Rd m ρ) (kcell (c, j)) 0)
      ⊢ (|={Set.univ}=> bigSep Finset.univ fun j => iprop(∃ κ : ℕ, cellInv ER (Rd m ρ) κ (kcell (c, j))) : sProp 𝕄) from by
        unfold zeros
        rw [← bigSep_sep']
        exact (bigSep_mono fun j _ => (Rounds.body_intro ER (Rd m ρ) (kcell (c, j))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Something every device may keep, handed to each. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants collected into the records every device keeps. -/
theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ payToks c) : sProp 𝕄)
      ⊢ bigSep Finset.univ (ghost m ρ) := by
  rw [bigSep_sep', bigSep_sep', ← bigSep_univ_prod (fun cj : Dev nD × J => iprop(∃ κ : ℕ, cellInv ER (Rd m ρ) κ (kcell cj))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun cj : Dev nD × J => (reached ER (kcell cj) 0 : sProp 𝕄))]
  iintro ⟨HI, ⟨Hat, #HR⟩, Htok⟩
  ihave HK := (BI.bigSep_exists_pi Finset.univ (fun (cj : Dev nD × J) (κ : ℕ) => (cellInv ER (Rd m ρ) κ (kcell cj) : sProp 𝕄))) $$ HI
  icases HK with ⟨%K, #HI⟩
  iapply (bigSep_with_persistent (R := records m ρ K) (Φ := fun c => iprop(poss c ∗ payToks c)) fun c _ => by
    unfold ghost; iintro ⟨HR, HP, HT⟩; iexists K
    isplitl [HR]; · iexact HR
    isplitl [HP]; · iexact HP
    iexact HT)
  isplitr
  · unfold records; isplitl; · iexact HI
    iexact HR
  · rw [bigSep_sep']
    isplitl [Hat]; · unfold poss; iexact Hat
    iexact Htok

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

/-- What device `d` owes, as a sum over its sends and its signals. -/
theorem owed_sum (d : Dev nD) (g : GSem nD τ sig) (u : Unit) : O₀ d g u = (∑ k : Fin 7, Os d k g u) + ∑ e : Fin 8, Ob d e g u := by
  have h7 : (∑ k : Fin 7, Os d k g u) = oS d 7 g u := by
    simp only [oS, Pi.add_apply, Finsupp.add_apply, Pi.zero_apply, Finsupp.zero_apply]
    rw [Fin.sum_univ_seven]
    show Os d 0 g u + Os d 1 g u + Os d 2 g u + Os d 3 g u + Os d 4 g u + Os d 5 g u + Os d 6 g u
      = 0 + Os d 6 g u + Os d 5 g u + Os d 4 g u + Os d 3 g u + Os d 2 g u + Os d 1 g u + Os d 0 g u
    omega
  rw [h7]
  unfold O₀
  simp only [oB, Pi.add_apply, Finsupp.add_apply]
  rw [Fin.sum_univ_eight]
  show oS d 7 g u + Ob d 7 g u + Ob d 6 g u + Ob d 5 g u + Ob d 4 g u + Ob d 3 g u + Ob d 2 g u + Ob d 1 g u + Ob d 0 g u
    = oS d 7 g u + (Ob d 0 g u + Ob d 1 g u + Ob d 2 g u + Ob d 3 g u + Ob d 4 g u + Ob d 5 g u + Ob d 6 g u + Ob d 7 g u)
  omega

/-- Barrier cells are equal only on the same device. -/
theorem bar_eq_iff {a b : Dev nD} : barCell a = barCell b ↔ a = b :=
  ⟨fun h => congrArg (fun g : GSem nD τ sig => g.1.1) h, fun h => h ▸ rfl⟩
/-- Receive cells are equal only for the same device and row. -/
theorem rcv_eq_iff {a b : Dev nD} {s t : Fin 8} : rcvCell a s = rcvCell b t ↔ a = b ∧ s = t := by
  constructor
  · intro h
    have h' : kcell (a, jR s) = kcell (b, jR t) := h
    have := kcell_injective h'
    exact ⟨congrArg Prod.fst this, Sum.inl.inj (Sum.inr.inj (congrArg Prod.snd this))⟩
  · rintro ⟨rfl, rfl⟩; rfl
/-- No receive cell is a barrier cell. -/
theorem rcv_ne_bar {a b : Dev nD} {s : Fin 8} : rcvCell a s ≠ barCell b := fun h => by
  have h' : kcell (a, jR s) = kcell (b, jB) := h
  have := congrArg Prod.snd (kcell_injective h')
  cases this

/-- What device `d` owes device `c`'s barrier cell: one unit if it is another device. -/
theorem owed_bar (d c : Dev nD) : O₀ d (barCell c) () = if c = d then 0 else 1 := by
  rw [owed_sum, Finset.sum_eq_zero, Nat.zero_add, Finset.sum_eq_single c]
  · unfold Ob; split
    · rfl
    · rw [tallyAt_apply, if_pos ⟨rfl, rfl⟩]
  · intro e _ he; unfold Ob; split
    · rfl
    · rw [tallyAt_apply, if_neg fun h => he (bar_eq_iff.mp h.1).symm]
  · intro h; exact absurd (Finset.mem_univ _) h
  · intro k _; unfold Os; rw [tallyAt_apply, if_neg fun h => rcv_ne_bar h.1.symm]
/-- What device `d` owes receive cell `s` of device `c`: a row's credit if `d = s` sends to `c`. -/
theorem owed_rcv (d c : Dev nD) (s : Fin 8) : O₀ d (rcvCell c s) () = N * ∑ k : Fin 7, if c = tgt d k ∧ s = d then 1 else 0 := by
  rw [owed_sum, Finset.sum_eq_zero (s := (Finset.univ : Finset (Fin 8))), Nat.add_zero, Finset.mul_sum]
  · refine Finset.sum_congr rfl fun k _ => ?_
    unfold Os; rw [tallyAt_apply]
    by_cases h : c = tgt d k ∧ s = d
    · rw [if_pos h, if_pos ⟨rcv_eq_iff.mpr h, rfl⟩, Nat.mul_one]
    · rw [if_neg h, if_neg fun h' => h (rcv_eq_iff.mp h'.1), Nat.mul_zero]
  · intro e _; unfold Ob; split
    · rfl
    · rw [tallyAt_apply, if_neg fun h => rcv_ne_bar h.1]

/-- Seven devices signal a device's barrier cell. -/
theorem count_bar (c : Dev nD) : (∑ d : Dev nD, if c = d then 0 else 1) = 7 := by revert c; decide
/-- One transfer of device `s` fills row `s` of another device, and none fills its own. -/
theorem count_rcv (c s : Dev nD) : (∑ d : Dev nD, ∑ k : Fin 7, if c = tgt d k ∧ s = d then 1 else 0) = if s = c then 0 else 1 := by
  revert c s; decide

/-- So the barrier cell's launch credit is seven units, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
/-- a receive cell's a row's, from every other device. -/
theorem launch_rcv (c : Dev nD) (s : Fin 8) (h : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s, ← Finset.mul_sum, count_rcv, if_neg h, Nat.mul_one]

/-- The launch credit of a receive cell is the credit its wait takes. -/
theorem credR_intro (c : Dev nD) (s : Fin 8) : (cred (tallyOn (rcvCell c s) (launchCredit (Pipeline.owing O₀) 0 (rcvCell c s))) : sProp 𝕄) ⊢ credR c s := by
  unfold credR
  by_cases h : s = c
  · rw [if_pos h]; iintro -; iempintro
  · rw [if_neg h, launch_rcv c s h]

/-- The credits a device waits with are in its launch credit. -/
theorem creds_intro (c : Dev nD) : (Pipeline.launchCred O₀ c : sProp 𝕄) ⊢ creds c := by
  unfold Pipeline.launchCred
  refine (BI.bigSep_subset (Finset.subset_univ (Finset.univ.map ⟨csem, csem_injective⟩))).trans ?_
  rw [bigSep_map]
  show bigSep Finset.univ (fun j : J => (cred (tallyOn (kcell (c, j)) (launchCredit (Pipeline.owing O₀) 0 (kcell (c, j)))) : sProp 𝕄)) ⊢ creds c
  rw [bigSep_J]
  iintro ⟨-, HR, -, HB⟩
  unfold creds
  isplitl [HB]
  · iapply (Entails.of_eq (congrArg (fun x => (cred x : sProp 𝕄)) (launch_bar c))); iexact HB
  iapply (show (bigSep Finset.univ fun s : Fin 8 => cred (tallyOn (rcvCell c s) (launchCredit (Pipeline.owing O₀) 0 (rcvCell c s))) : sProp 𝕄) ⊢ bigSep Finset.univ (fun s : Fin 8 => credR c s) from bigSep_mono fun s _ => credR_intro c s)
  iexact HR

/-! ### The theorem's side conditions -/

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, show (Pipeline.unscopedRest cfg0.spec c (fun b => m ((c : Thread nD τ).loc b)) : sProp 𝕄) = hbm m c from unscopedRest0_eq c _]
  iintro ⟨Hh, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    iexact Hh
  · iempintro

/-- The start and the scratch buffers give the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_intro (F := F) c); iexact Hr

/-- The state after the body gives back the semaphores at zero, the inputs and the scratch buffers. -/
theorem phi1_exit (c : Dev nD) :
    (dats m ρ 0 c).Φ (Fin.last cfg0.N) ⊢ iprop((unscopedSems0 c ∗ hbm m c) ∗ Pipeline.ownSems0 osem c ∗ Pipeline.scopedRest cfg0.spec c) := by
  rw [show (dats m ρ 0 c).Φ (Fin.last cfg0.N) = Φ₁ m c from rfl]
  unfold Φ₁
  iintro ⟨HZ, Hr, Hh⟩
  ihave HZ := (zeros_exit (F := F) c) $$ HZ
  icases HZ with ⟨HO, HU⟩
  isplitl [HU Hh]
  · isplitl [HU]; · iexact HU
    iexact Hh
  isplitl [HO]; · iexact HO
  iapply (scr_exit (F := F) c); iexact Hr

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> rfl) 8
    · show (levAts L lv : sProp 𝕄) ⊢ MayWait (c : Thread nD τ) _ () 0
      rw [MayWait_zero]; iintro -; iempintro

/-! ### The run -/

/-- What a window's array holds after the run. -/
def finalA (c : Dev nD) (w : Fin cfg0.W) : Buf (Elt F) ((cfg0.win w).arr.view.loc (c : Thread nD τ)) := (dats m ρ 0 c).arrAt w cfg0.N

/-- What a device reads off at the end besides the windows' arrays: its barrier semaphore and the other inputs. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg3) = m ((c : Thread nD τ).loc main_arg3)
    ∧ s.mem ((c : Thread nD τ).loc main_arg4) = m ((c : Thread nD τ).loc main_arg4)

/-- What a device holds at the end fixes its part of the final memory. -/
theorem read_end (c : Dev nD) (s' : Phys nD τ sig (Elt F)) :
    iprop((unscopedSems0 c ∗ hbm m c) ∗ emp ∗ SI s') ⊢ (|={Set.univ}=> iprop(⌜QY m c s'.mem⌝ ∗ SI s') : sProp 𝕄) := by
  unfold hbm hPts
  iintro ⟨⟨Hu, H0, H3, H4⟩, -, HSI⟩
  icombine HSI H0 gives %h0
  icombine HSI H3 gives %h3
  icombine HSI H4 gives %h4
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨hs, Buf.eq_of_forall_mem_univ h0, Buf.eq_of_forall_mem_univ h3, Buf.eq_of_forall_mem_univ h4⟩
  iexact HSI

set_option maxRecDepth 8000 in
/-- On the mesh of eight devices, for any float values, from any memory with zero counters: every weakly fair execution
    terminates with the windows' arrays at the computed contents, the other inputs unchanged and every counter at zero. -/
theorem run_raw : θ_run defs (onTc (τ := τ) (main (F := F))) (s₀ m ρ)
    (fun r => (∀ c : Dev nD, (∀ w : Fin cfg0.W, r.2.mem ((cfg0.win w).arr.view.loc (c : Thread nD τ)) = finalA m ρ c w) ∧ QY m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(unscopedSems0 c ∗ hbm m c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2⟩, sem_eq_zero hs fun c => (h c).2.2.1⟩)

/-- The staged inputs' arrays hold what they held; -/
theorem finalA_0 (c : Dev nD) : finalA m ρ c (0 : Fin 3) = m ((c : Thread nD τ).loc main_arg1) := (dats (F := F) m ρ 0 c).arrAt_in (0 : Fin 3) rfl _
/-- The array of the expert numbers is unchanged after the run. -/
theorem finalA_1 (c : Dev nD) : finalA m ρ c (1 : Fin 3) = m ((c : Thread nD τ).loc main_arg2) := (dats (F := F) m ρ 0 c).arrAt_in (1 : Fin 3) rfl _

end Cert.Moe

end
-- ==== Proof.Run.lean ====
/-
The run of the mesh read off: every device's result array, its inputs, and the semaphores.
-/
module

public import proofs.«01_k».proof.Proof.Launch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array ends at the result of the body. -/
theorem finalA_2 (c : Dev nD) : finalA m ρ c (2 : Fin 3) = outC m ρ c := by
  have hz : (fun a => (win0_2.index t0_0) a * main_v1.ty.shape.size a) = fun _ => 0 := funext fun a => by fin_cases a <;> decide
  have hr := fun f => Memref.read_access_unit_zero (Elt F) main_v1 hz (fun a => by fin_cases a <;> decide) f
  have ho : (win0_2.blk t0_0).view.read (Elt F) (finalA m ρ c (2 : Fin 3)) = outC m ρ c := by
    unfold finalA
    rw [show cfg0.N = t0_0.val + 1 from rfl, (dats m ρ 0 c).arrAt_succ (2 : Fin 3) t0_0, if_pos (flush0_2 t0_0)]
    exact View.read_write_univ _ _
  exact (hr _).symm.trans ho

/-- The staged inputs are the input arrays. -/
theorem gs_eq (c : Dev nD) : gs m ρ c = m ((c : Thread nD τ).loc main_arg1) := by
  have hz : (fun a => (win0_0.index (0 : Fin 1)) a * main_arg1.ty.shape.size a) = fun _ => 0 := funext fun a => by fin_cases a <;> decide
  exact Memref.read_access_unit_zero (Elt F) main_arg1 hz (fun a => by fin_cases a <;> decide) _
/-- The expert numbers that the kernel reads are the argument's. -/
theorem is_eq (c : Dev nD) : is m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
/-- The input rows that the kernel reads are the argument's. -/
theorem xs_eq (c : Dev nD) : xs m c = m ((c : Thread nD τ).loc main_arg0) := View.read_whole _ _
/-- The experts that the kernel reads are the argument's. -/
theorem es_eq (c : Dev nD) : es m c = m ((c : Thread nD τ).loc main_arg3) := View.read_whole _ _
/-- The shared expert that the kernel reads is the argument's. -/
theorem ws_eq (c : Dev nD) : ws m c = m ((c : Thread nD τ).loc main_arg4) := View.read_whole _ _

/-- For any float values, from any memory with zero counters: every weakly fair execution terminates with each device's
    result array at `outC`, its arguments unchanged and every counter at zero. -/
theorem run_main : θ_run (defs (F := F)) (onTc (τ := τ) (main (F := F))) ⟨m, fun _ => 0, ρ⟩
    (fun r => (∀ c : Dev nD,
      r.2.mem ((c : Thread nD τ).loc main_v1) = outC m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨((h.1 c).1 (2 : Fin 3)).trans (finalA_2 m ρ c), (h.1 c).2.2.1, ((h.1 c).1 (0 : Fin 3)).trans (finalA_0 m ρ c),
      ((h.1 c).1 (1 : Fin 3)).trans (finalA_1 m ρ c), (h.1 c).2.2.2.1, (h.1 c).2.2.2.2⟩, h.2⟩) (run_raw m ρ)

end Cert.Moe

end
-- ==== Proof.Frames.lean ====
/-
The frames of the three programs.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Moe

open Idealize.ShloMosaic Idealize.SL.Sem

/-- The arguments and the counters at the end of the kernel's run over any float values. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (run_main m ρ)

/-- The two printings of the kernel have one table of bodies. -/
theorem defs0_eq {F : FTy → Type} [FloatOps F] : (Cert.KernelIdeal.defs₀ (F := F)) = Cert.Kernel.defs₀ := by
  unfold Cert.KernelIdeal.defs₀ Cert.Kernel.defs₀
  refine congrArg Defs.onTc ?_
  funext l x
  match l, x with
  | 0, (t, s) => rfl

/-- The two printings of the kernel have one table of procedures. -/
theorem defs_eq {F : FTy → Type} [FloatOps F] : (Cert.KernelIdeal.defs (F := F)) = Cert.Kernel.defs :=
  congrArg (Pipeline.defs (Cert.Kernel.pcfgs (F := F))) defs0_eq

/-- The kernel at its bits runs, leaves its arguments unchanged and every counter at zero. -/
theorem frame_kernel : Cert.quiescent_Kernel := fun m ρ _ => by
  have h := frame_any (F := Bits) m ρ
  rw [defs_eq] at h
  exact h

/-- The kernel read over the extended reals runs, leaves its arguments unchanged and every counter at zero. -/
theorem frame_kernelIdeal : Cert.quiescent_KernelIdeal := fun m ρ _ => frame_any (F := Ideal) m ρ

/-- The reference runs and leaves its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Moe

end
-- ==== Proof.Spec.lean ====
/-
The mathematics both programs share, over the extended reals: the softmax of a row's scores, the weight of the expert the
row is routed to, and why that weight moves through the sum over the features.
-/
module
public import Idealize.ShloMosaic.Lib.Pointwise
public import Idealize.ShloMosaic.Lib.KernelVsHost
@[expose] public section
noncomputable section
namespace Cert.Moe
open Idealize.ShloMosaic

abbrev VX : Type := FVec Ideal ⟨2, ![512, 256]⟩ .f32
abbrev VG : Type := FVec Ideal ⟨2, ![256, 16]⟩ .f32
abbrev VI : Type := IVec ⟨2, ![512, 1]⟩ 32
abbrev VE : Type := FVec Ideal ⟨3, ![16, 256, 512]⟩ .f32
abbrev VW : Type := FVec Ideal ⟨2, ![256, 512]⟩ .f32

/-- The score of expert `e` for row `r`. -/
def score (x : VX) (g : VG) (r : Fin 512) (e : Fin 16) : EReal := ∑ k : Fin 256, x (ix2 r k) * g (ix2 k e)
/-- The largest score of row `r`. -/
def top (x : VX) (g : VG) (r : Fin 512) : EReal :=
  Finset.fold max (Ideal.ofBits FTy.f32 0xFF800000#32) (fun e => score x g r e) Finset.univ
/-- The numerator of the softmax. -/
def num (x : VX) (g : VG) (r : Fin 512) (e : Fin 16) : EReal := Ideal.exp (score x g r e - top x g r)
/-- The softmax. -/
def prob (x : VX) (g : VG) (r : Fin 512) (e : Fin 16) : EReal := Ideal.div (num x g r e) (∑ e' : Fin 16, num x g r e')
/-- One where two words agree, zero elsewhere. -/
def hit (a b : BitVec 32) : EReal := if a = b then 1 else 0
/-- The weight of the expert that row `r` is routed to; zero where the row names no expert. -/
def routed (x : VX) (g : VG) (i : VI) (r : Fin 512) : EReal :=
  ∑ e : Fin 16, prob x g r e * hit (BitVec.ofNat 32 e.val) (i (ix2 r 0))
/-- Row `r` times the matrix of expert `e`, at column `h`. -/
def expert (x : VX) (E : VE) (e : Fin 16) (r h : Fin 512) : EReal := ∑ k : Fin 256, x (ix2 r k) * E (ix3 e k h)
/-- Row `r` times the shared matrix, at column `h`. -/
def shared (x : VX) (w : VW) (r h : Fin 512) : EReal := ∑ k : Fin 256, x (ix2 r k) * w (ix2 k h)
/-- What expert `e` adds to the result, the weight applied to the row before the product. -/
def part (x : VX) (g : VG) (i : VI) (E : VE) (e : Fin 16) (r h : Fin 512) : EReal :=
  ∑ k : Fin 256, routed x g i r * hit (i (ix2 r 0)) (BitVec.ofNat 32 e.val) * x (ix2 r k) * E (ix3 e k h)

/-- A comparison of words, widened and converted, is the indicator of their being equal. -/
theorem sitofp_hit (a b : BitVec 32) :
    FloatOps.sitofp (F := Ideal) FTy.f32 (BitVec.setWidth 32 (IntOp.cmpi CmpIPredicate.eq a b)) = hit a b := by
  unfold hit
  by_cases h : a = b
  · subst h
    simp [IntOp.cmpi, FloatOps.sitofp]
  · have hb : (a == b) = false := by simpa using h
    simp [IntOp.cmpi, FloatOps.sitofp, h, hb]

/-- A nonnegative finite factor moves out of a finite sum of extended reals. -/
theorem mul_sum_of_nonneg {n : ℕ} (p : EReal) (h0 : 0 ≤ p) (ht : p ≠ ⊤) (f : Fin n → EReal) :
    p * ∑ k, f k = ∑ k, p * f k := by
  classical
  refine Finset.induction_on (Finset.univ : Finset (Fin n)) ?_ ?_
  · simp
  · intro a s ha ih
    rw [Finset.sum_insert ha, Finset.sum_insert ha, EReal.left_distrib_of_nonneg_of_ne_top h0 ht, ih]

/-- No score exceeds the largest. -/
theorem score_le_top (x : VX) (g : VG) (r : Fin 512) (e : Fin 16) : score x g r e ≤ top x g r :=
  (Finset.fold_max_le (top x g r)).mp le_rfl |>.2 e (Finset.mem_univ e)

/-- The exponential is nonnegative. -/
theorem exp_nonneg (z : EReal) : 0 ≤ Ideal.exp z := by
  induction z with
  | bot => exact le_refl (0 : EReal)
  | top => exact le_top
  | coe r => exact EReal.coe_nonneg.mpr (Real.exp_pos r).le

/-- The exponential is infinite only at infinity. -/
theorem exp_ne_top (z : EReal) (h : z ≠ ⊤) : Ideal.exp z ≠ ⊤ := by
  induction z with
  | bot => exact EReal.zero_ne_top
  | top => exact absurd rfl h
  | coe r => exact EReal.coe_ne_top _

/-- The exponential vanishes only at minus infinity. -/
theorem exp_eq_zero (z : EReal) (h : Ideal.exp z = 0) : z = ⊥ := by
  induction z with
  | bot => rfl
  | top => exact absurd h EReal.top_ne_zero
  | coe r => exact absurd (EReal.coe_eq_zero.mp h) (Real.exp_pos r).ne'

/-- Where the largest score is finite the numerators do not all vanish. -/
theorem sum_num_ne_zero (x : VX) (g : VG) (r : Fin 512) (h1 : top x g r ≠ ⊥) (h2 : top x g r ≠ ⊤) :
    ∑ e : Fin 16, num x g r e ≠ 0 := by
  intro h
  have h' := (Finset.sum_eq_zero_iff_of_nonneg (fun e _ => exp_nonneg (score x g r e - top x g r))).mp h
  apply h1
  refine le_bot_iff.mp ((Finset.fold_max_le ⊥).mpr ⟨?_, fun e _ => ?_⟩)
  · simp [Ideal.ofBits, Ideal.ieee]
  · have h3 := exp_eq_zero _ (h' e (Finset.mem_univ e))
    rw [sub_eq_add_neg, EReal.add_eq_bot_iff] at h3
    rcases h3 with h3 | h3
    · exact h3.le
    · exact absurd (EReal.neg_eq_bot_iff.mp h3) h2

/-- Where the largest score is finite, a weight is nonnegative and finite. -/
theorem prob_bounds (x : VX) (g : VG) (r : Fin 512) (h1 : top x g r ≠ ⊥) (h2 : top x g r ≠ ⊤) (e : Fin 16) :
    0 ≤ prob x g r e ∧ prob x g r e ≠ ⊤ := by
  have h3 := sum_num_ne_zero x g r h1 h2
  have h0 : 0 ≤ num x g r e := exp_nonneg _
  have hs : 0 ≤ ∑ e : Fin 16, num x g r e := Finset.sum_nonneg fun e _ => exp_nonneg _
  have hsc : score x g r e ≠ ⊤ := fun h => h2 (top_le_iff.mp (h ▸ score_le_top x g r e))
  have ht : num x g r e ≠ ⊤ := exp_ne_top _ fun h => by
    rw [sub_eq_add_neg] at h
    exact EReal.add_ne_top hsc (fun hn => h1 (EReal.neg_eq_top_iff.mp hn)) h
  have hi : 0 ≤ (∑ e : Fin 16, num x g r e)⁻¹ := EReal.inv_nonneg_of_nonneg hs
  have hit : (∑ e : Fin 16, num x g r e)⁻¹ ≠ ⊤ := by
    generalize (∑ e : Fin 16, num x g r e) = z
    induction z with
    | bot => simp
    | top => simp
    | coe a => rw [← EReal.coe_inv]; exact EReal.coe_ne_top _
  unfold prob Ideal.div
  rw [if_neg h3]
  refine ⟨mul_nonneg h0 hi, ?_⟩
  generalize num x g r e = a at *
  generalize (∑ e : Fin 16, num x g r e)⁻¹ = b at *
  lift a to ℝ using ⟨ht, fun h => by simp [h] at h0⟩
  lift b to ℝ using ⟨hit, fun h => by simp [h] at hi⟩
  rw [← EReal.coe_mul]
  exact EReal.coe_ne_top _

/-- The weight of a row that names expert `e` is that expert's probability. -/
theorem routed_of_eq (x : VX) (g : VG) (i : VI) (r : Fin 512) (e : Fin 16) (h : i (ix2 r 0) = BitVec.ofNat 32 e.val) :
    routed x g i r = prob x g r e := by
  unfold routed hit
  rw [Finset.sum_eq_single e]
  · rw [if_pos h.symm, mul_one]
  · intro e' _ hne
    rw [if_neg, mul_zero]
    rw [h]
    intro hh
    have := congrArg BitVec.toNat hh
    simp only [BitVec.toNat_ofNat] at this
    exact hne (Fin.ext (by omega))
  · exact fun hn => absurd (Finset.mem_univ e) hn

/-- A row that names no expert has weight zero. -/
theorem routed_of_ne (x : VX) (g : VG) (i : VI) (r : Fin 512) (h : ∀ e : Fin 16, i (ix2 r 0) ≠ BitVec.ofNat 32 e.val) :
    routed x g i r = 0 := by
  unfold routed hit
  exact Finset.sum_eq_zero fun e _ => by rw [if_neg (fun hh => h e hh.symm), mul_zero]

/-- Only the expert a row names adds to its result: its weight times the row's product with its matrix. -/
theorem sum_part_of_eq (x : VX) (g : VG) (i : VI) (E : VE) (r h : Fin 512) (h1 : top x g r ≠ ⊥) (h2 : top x g r ≠ ⊤)
    (e : Fin 16) (he : i (ix2 r 0) = BitVec.ofNat 32 e.val) :
    ∑ e' : Fin 16, part x g i E e' r h = routed x g i r * expert x E e r h := by
  rw [Finset.sum_eq_single e]
  · have hb := prob_bounds x g r h1 h2 e
    rw [← routed_of_eq x g i r e he] at hb
    unfold part expert hit
    rw [mul_sum_of_nonneg _ hb.1 hb.2, if_pos he]
    exact Finset.sum_congr rfl fun k _ => by rw [mul_one, mul_assoc]
  · intro e' _ hne
    unfold part hit
    rw [if_neg]
    · simp
    · rw [he]
      intro hh
      have := congrArg BitVec.toNat hh
      simp only [BitVec.toNat_ofNat] at this
      exact hne (Fin.ext (by omega))
  · exact fun hn => absurd (Finset.mem_univ e) hn

/-- No expert adds to the result of a row that names none. -/
theorem sum_part_of_ne (x : VX) (g : VG) (i : VI) (E : VE) (r h : Fin 512)
    (hn : ∀ e : Fin 16, i (ix2 r 0) ≠ BitVec.ofNat 32 e.val) : ∑ e' : Fin 16, part x g i E e' r h = 0 := by
  refine Finset.sum_eq_zero fun e _ => ?_
  unfold part
  rw [routed_of_ne x g i r hn]
  simp

end Cert.Moe
-- ==== Proof.KerValue.lean ====
/- What the kernel's payloads are over the extended reals, element by element. -/
module
public import proofs.«01_k».proof.Proof.Proto
public import proofs.«01_k».proof.Proof.Spec
@[expose] public section
noncomputable section
namespace Cert.Moe
open Idealize.ShloMosaic Idealize.SL.Sem Cert.KernelIdeal Cert.KernelIdeal.Gen

/-- The row of the whole array that device `c` calls row `q`. -/
abbrev gr (c : Fin 8) (q : Fin 64) : Fin 512 := ⟨64 * c.val + q.val, by omega⟩
/-- The expert that device `c` holds as its `j`-th. -/
abbrev ex (c : Fin 8) (j : Fin 2) : Fin 16 := ⟨2 * c.val + j.val, by omega⟩

/-- The kernel's weight of a row is the weight of the expert it names. -/
theorem pay2_apply (x : VX) (g : VG) (i : VI) (r : Fin 512) :
    k0_pay2 (F := Ideal) x g i (ix2 r 0) = routed x g i r := by
  pointwise [k0_pay2, k0_pay1]
  simp only [sitofp_hit]
  rfl

/-- The weight at a device's first expert. -/
theorem pay3_apply (w : BitVec 32) (x : VX) (g : VG) (i : VI) (r : Fin 512) :
    k0_pay3 (F := Ideal) w x g i (ix2 r 0) = routed x g i r * hit (i (ix2 r 0)) (Scalar.muli w 2#32) := by
  pointwise [k0_pay3, k0_pay1, pay2_apply]
  simp only [sitofp_hit]

/-- The weighted rows times a device's first expert. -/
theorem pay5_apply (x : VX) (w : FVec Ideal S512x1 .f32) (e : FVec Ideal S1x256x512 .f32) (r : Fin 512) (h : Fin 512) :
    k0_pay5 (F := Ideal) x w e (ix2 r h) = ∑ k : Fin 256, w (ix2 r 0) * x (ix2 r k) * e (ix3 0 k h) := by
  pointwise [k0_pay5]

/-- The rows weighted for a device's second expert. -/
theorem pay6_apply (w : BitVec 32) (x : VX) (p : FVec Ideal S512x1 .f32) (i : VI) (r : Fin 512) (k : Fin 256) :
    k0_pay6 (F := Ideal) x p (k0_pay4 (F := Ideal) w i) (ix2 r k)
      = p (ix2 r 0) * hit (i (ix2 r 0)) (Scalar.addi (Scalar.muli w 2#32) 1#32) * x (ix2 r k) := by
  pointwise [k0_pay6, k0_pay4, k0_pay1]
  simp only [sitofp_hit]

/-- A device's second expert. -/
theorem pay7_apply (e : FVec Ideal S1x256x512 .f32) (k : Fin 256) (h : Fin 512) :
    k0_pay7 (F := Ideal) e (ix2 k h) = e (ix3 0 k h) := by
  pointwise [k0_pay7]

/-- A chunk: the second expert's product added to the first's. -/
theorem pay8_apply (E : FVec Ideal S256x512 .bf16) (y : FVec Ideal S64x256 .bf16) (d : FVec Ideal S64x512 .f32) (r : Fin 64) (h : Fin 512) :
    k0_pay8 (F := Ideal) E y d (ix3 0 r h) = ∑ k : Fin 256, y (ix2 r k) * E (ix2 k h) + d (ix2 r h) := by
  pointwise [k0_pay8]

/-- What the result starts from: the shared product and the device's own chunk. -/
theorem pay19_apply (E : FVec Ideal S256x512 .bf16) (y : FVec Ideal S64x256 .bf16) (d : FVec Ideal S64x512 .f32)
    (x : FVec Ideal S64x256 .f32) (w : VW) (r : Fin 64) (h : Fin 512) :
    k0_pay19 (F := Ideal) E y d x w (ix2 r h)
      = ∑ k : Fin 256, x (ix2 r k) * w (ix2 k h) + (∑ k : Fin 256, y (ix2 r k) * E (ix2 k h) + d (ix2 r h)) := by
  pointwise [k0_pay19]

/-- One received chunk added. -/
theorem pay20_apply (a : FVec Ideal S64x512 .f32) (b : FVec Ideal S1x64x512 .bf16) (r : Fin 64) (h : Fin 512) :
    k0_pay20 (F := Ideal) a b (ix2 r h) = a (ix2 r h) + b (ix3 0 r h) := by
  pointwise [k0_pay20]

/-- Reading a device's first expert. -/
theorem e0_read (f : FVec Ideal S2x256x512 .f32) (k : Fin 256) (h : Fin 512) :
    eV.view.readAt (Elt Ideal) e0R.toLoadRect f (ix3 0 k h) = f (ix3 0 k h) := by
  show f ((View.whole cc0_scratch5).emb _) = _
  pointwise
  rfl

/-- Reading a device's second expert. -/
theorem e1_read (f : FVec Ideal S2x256x512 .f32) (k : Fin 256) (h : Fin 512) :
    eV.view.readAt (Elt Ideal) e1R.toLoadRect f (ix3 0 k h) = f (ix3 1 k h) := by
  show f ((View.whole cc0_scratch5).emb _) = _
  pointwise
  rfl

/-- Reading a chunk's rows of the weighted rows. -/
theorem y_read (f : FVec Ideal S512x256 .bf16) (t : Fin 8) (q : Fin 64) (k : Fin 256) :
    yM.view.readAt (Elt Ideal) (yR t).toLoadRect f (ix2 q k) = f (ix2 (gr t q) k) := by
  show f ((View.whole cc0_scratch3).emb _) = _
  pointwise
  rfl

/-- Reading a chunk's rows of the first expert's product. -/
theorem d_read (f : FVec Ideal S512x512 .f32) (t : Fin 8) (q : Fin 64) (k : Fin 512) :
    dM.view.readAt (Elt Ideal) (dR t).toLoadRect f (ix2 q k) = f (ix2 (gr t q) k) := by
  show f ((View.whole cc0_scratch2).emb _) = _
  pointwise
  rfl

/-- Reading a device's own rows. -/
theorem x_read (f : FVec Ideal S512x256 .f32) (t : Fin 8) (q : Fin 64) (k : Fin 256) :
    xV.view.readAt (Elt Ideal) (yR t).toLoadRect f (ix2 q k) = f (ix2 (gr t q) k) := by
  show f ((View.whole cc0_scratch4).emb _) = _
  pointwise
  rfl

/-- The word of a device's first expert. -/
theorem w2_even (c : Dev nD) : Scalar.muli (w2 c) 2#32 = BitVec.ofNat 32 (ex c 0).val := by
  revert c
  decide

/-- The word of a device's second expert. -/
theorem w2_odd (c : Dev nD) : Scalar.addi (Scalar.muli (w2 c) 2#32) 1#32 = BitVec.ofNat 32 (ex c 1).val := by
  revert c
  decide

/-- What a device adds to one of the rows: its two experts' parts. -/
def both (x : VX) (g : VG) (i : VI) (E : VE) (c : Dev nD) (r h : Fin 512) : EReal := part x g i E (ex c 1) r h + part x g i E (ex c 0) r h

/-- A sum over the experts, two for each device. -/
theorem sum_pairs (f : Fin 16 → EReal) : ∑ e : Fin 16, f e = ∑ s : Fin 8, (f (ex s 1) + f (ex s 0)) := by
  have h : ∀ s : Fin 8, f (ex s 1) + f (ex s 0) = ∑ j : Fin 2, f (ex s j) := fun s => by
    rw [Fin.sum_univ_two, add_comm]
  rw [Finset.sum_congr rfl fun s _ => h s, ← Fintype.sum_prod_type' (f := fun s j => f (ex s j))]
  refine (Fintype.sum_equiv finProdFinEquiv (fun p => f (ex p.1 p.2)) f fun p => congrArg f (Fin.ext ?_)).symm
  show 2 * p.1.val + p.2.val = p.2.val + 2 * p.1.val
  omega

section Values

variable (m : (ℓ : Loc nD τ sig) → Buf (Elt Ideal) ℓ) (ρ : Dev nD → PrngReg)
variable (x : VX) (g : VG) (i : VI) (E : VE) (w : VW)

/-- Every device starts from these arguments: all of `x`, `g`, `i` and `w`, and its two of the experts in `E`. -/
structure Starts : Prop where
  hx : ∀ c, xs m c = x
  hg : ∀ c, gs m ρ c = g
  hi : ∀ c, is m ρ c = i
  he : ∀ (c : Dev nD) (j : Fin 2) (k : Fin 256) (h : Fin 512), (es m c : FVec Ideal S2x256x512 .f32) (ix3 j k h) = E (ix3 (ex c j) k h)
  hw : ∀ c, ws m c = w

variable {m ρ x g i E w} (H : Starts m ρ x g i E w)
include H

/-- The first expert's product. -/
theorem dC_apply (c : Dev nD) (r h : Fin 512) : dC m ρ c (ix2 r h) = part x g i E (ex c 0) r h := by
  unfold dC
  refine (pay5_apply _ _ _ r h).trans ?_
  unfold part
  refine Finset.sum_congr rfl fun k _ => ?_
  rw [pay3_apply, w2_even, e0_read, H.hx, H.hg, H.hi, H.he]

/-- The second expert's product over one row. -/
theorem yC_apply (c : Dev nD) (r : Fin 512) (k : Fin 256) :
    yC m ρ c (ix2 r k) = routed x g i r * hit (i (ix2 r 0)) (BitVec.ofNat 32 (ex c 1).val) * x (ix2 r k) := by
  unfold yC
  rw [pay6_apply, pay2_apply, w2_odd, H.hx, H.hg, H.hi]

/-- The second expert's matrix. -/
theorem e1C_apply (c : Dev nD) (k : Fin 256) (h : Fin 512) : e1C m c (ix2 k h) = E (ix3 (ex c 1) k h) := by
  unfold e1C
  rw [pay7_apply, e1_read, H.he]

/-- The chunk device `s` makes for device `t`. -/
theorem chunk_apply (s t : Dev nD) (q : Fin 64) (h : Fin 512) : chunk m ρ s t (ix3 0 q h) = both x g i E s (gr t q) h := by
  unfold chunk both
  rw [pay8_apply, d_read, dC_apply H]
  congr 1
  unfold part
  refine Finset.sum_congr rfl fun k _ => ?_
  rw [y_read, yC_apply H, e1C_apply H]

/-- What the result starts from. -/
theorem out0_apply (c : Dev nD) (q : Fin 64) (h : Fin 512) :
    out0 m ρ c (ix2 q h) = shared x w (gr c q) h + both x g i E c (gr c q) h := by
  unfold out0 both
  rw [pay19_apply, d_read, dC_apply H, H.hw]
  congr 1
  · unfold shared
    refine Finset.sum_congr rfl fun k _ => ?_
    rw [x_read, H.hx]
  · congr 1
    unfold part
    refine Finset.sum_congr rfl fun k _ => ?_
    rw [y_read, yC_apply H, e1C_apply H]

/-- One step of the sum over the devices. -/
theorem accStep_apply (c s : Dev nD) (a : FVec Ideal S64x512 .f32) (q : Fin 64) (h : Fin 512) :
    accStep m ρ c s a (ix2 q h) = a (ix2 q h) + if s = c then 0 else both x g i E s (gr c q) h := by
  unfold accStep
  split
  · rw [add_zero]
  · rw [pay20_apply, chunk_apply H]

/-- THE KERNEL'S RESULT: the shared product and every expert's part. -/
theorem outC_apply (c : Dev nD) (q : Fin 64) (h : Fin 512) :
    outC m ρ c (ix2 q h) = shared x w (gr c q) h + ∑ e : Fin 16, part x g i E e (gr c q) h := by
  have h1 : ∑ e : Fin 16, part x g i E e (gr c q) h = ∑ s : Fin 8, both x g i E s (gr c q) h := by
    unfold both
    rw [sum_pairs fun e => part x g i E e (gr c q) h]
  have h2 : ∑ s : Fin 8, both x g i E s (gr c q) h
      = both x g i E c (gr c q) h + ∑ s : Fin 8, if s = c then 0 else both x g i E s (gr c q) h := by
    have h3 : both x g i E c (gr c q) h = ∑ s : Fin 8, if s = c then both x g i E s (gr c q) h else 0 := by
      rw [Finset.sum_ite_eq' Finset.univ c, if_pos (Finset.mem_univ c)]
    rw [h3, ← Finset.sum_add_distrib]
    refine Finset.sum_congr rfl fun s _ => ?_
    split <;> simp
  rw [h1, h2]
  unfold outC
  simp only [accStep_apply H, out0_apply H, Fin.sum_univ_eight, ← add_assoc]

end Values

end Cert.Moe
-- ==== Proof.RefValue.lean ====
/- What the reference computes over the extended reals, element by element. -/
module
public import proofs.«01_k».proof.Proof.Gen.ReferenceIdeal
public import proofs.«01_k».proof.Proof.Spec
public import Idealize.ShloMosaic.Lib.ReduceAll
@[expose] public section
noncomputable section
namespace Cert.Moe
open Idealize.ShloMosaic Idealize.SL.Sem Cert.ReferenceIdeal Cert.ReferenceIdeal.Gen

/-- The scores. -/
def rScore (x : VX) (g : VG) : FVec Ideal S512x16 .f32 := Host.dotGeneral dot_S512x256_S256x16_S512x16_1_0_0_1_n_n none x g
/-- The numerators of the softmax. -/
def rNum (x : VX) (g : VG) : FVec Ideal S512x16 .f32 :=
  Host.exp (subf (rScore x g) (broadcastInDim S512x16 ![0, 1] bcast_S512x1_S512x16_0_1 (broadcastInDim S512x1 ![0] bcast_S512_S512x1_0
    (Host.reduce FloatOps.maximumf (rScore x g) (constant S_ .f32 0xFF800000#32) reducesTo_S512x16_S512_d1 h_S_))))
/-- The softmax. -/
def rProb (x : VX) (g : VG) : FVec Ideal S512x16 .f32 :=
  Host.divf (rNum x g) (broadcastInDim S512x16 ![0, 1] bcast_S512x1_S512x16_0_1 (broadcastInDim S512x1 ![0] bcast_S512_S512x1_0
    (Host.reduceAdd (rNum x g) (constant S_ .f32 0x00000000#32) reducesTo_S512x16_S512_d1 h_S_)))
/-- The row each row is routed to, as a vector. -/
def rIdx (i : VI) : IVec S512x1 32 := broadcastInDim S512x1 ![0] bcast_S512_S512x1_0 (shapeCast S512 i shapeCasts_S512x1_S512)
/-- Each row's pair of row number and expert. -/
def rPair (i : VI) : IVec S512x2 32 :=
  concatenate S512x2 1 [⟨S512x1, broadcastInDim S512x1 ![0] bcast_S512_S512x1_0 (iotaInDim S512 32 0)⟩, ⟨S512x1, rIdx i⟩] concatenates_S512x1_S512x1_S512x2_d1
/-- Which entries of the pairs are in range. -/
def rIn (i : VI) : IVec S512x2 1 :=
  andi (cmpi .sge (rPair i) (broadcastInDim S512x2 ![] bcast_S_S512x2 (constantI S_ 32 0#32)))
    (cmpi .sle (rPair i) (broadcastInDim S512x2 ![0, 1] bcast_S1x2_S512x2_0_1 (broadcastInDim S1x2 ![1] bcast_S2_S1x2_1 (fun i => lit0 (S2.rowMajor i)))))
/-- The weight of the expert each row names, zero where it names none. -/
def rWeight (x : VX) (g : VG) (i : VI) : FVec Ideal S512 .f32 :=
  select (Host.reduce IntOp.andi (rIn i) (constantI S_ 1 1#1) reducesTo_S512x2_S512_d1 h_S_)
    (Host.gather gather_S512x16_S512x2_S512_n_01_n_n_01_1_11 (rProb x g) (rPair i)) (broadcastInDim S512 ![] bcast_S_S512 (constant S_ .f32 0x00000000#32))
/-- The matrix of the expert each row names. -/
def rMat (E : VE) (i : VI) : FVec Ideal S512x256x512 .f32 :=
  Host.gather gather_S16x256x512_S512x1_S512x256x512_12_0_n_n_0_1_1256512 E (rIdx i)
/-- The reference's result. -/
def rOut (x : VX) (g : VG) (i : VI) (E : VE) (w : VW) : FVec Ideal S512x512 .f32 :=
  addf (Host.dotGeneral dot_S512x256_S256x512_S512x512_1_0_0_1_n_n none x w)
    (mulf (broadcastInDim S512x512 ![0, 1] bcast_S512x1_S512x512_0_1 (broadcastInDim S512x1 ![0] bcast_S512_S512x1_0 (rWeight x g i)))
      (Host.dotGeneral dot_S512x256_S512x256x512_S512x512_1_1_n_2_0_0 none x (rMat E i)))

/-- The scores at an element. -/
theorem rScore_apply (x : VX) (g : VG) (r : Fin 512) (e : Fin 16) : rScore x g (ix2 r e) = score x g r e := by
  pointwise [rScore]
  rfl

/-- The numerators at an element. -/
theorem rNum_apply (x : VX) (g : VG) (r : Fin 512) (e : Fin 16) : rNum x g (ix2 r e) = num x g r e := by
  pointwise [rNum, rScore_apply]
  rfl

/-- The softmax at an element. -/
theorem rProb_apply (x : VX) (g : VG) (r : Fin 512) (e : Fin 16) : rProb x g (ix2 r e) = prob x g r e := by
  pointwise [rProb, rNum_apply]
  rfl

/-- The named expert at a row. -/
theorem rIdx_apply (i : VI) (r : Fin 512) : rIdx i (ix2 r 0) = i (ix2 r 0) := by
  pointwise [rIdx]

/-- The two entries of a row's pair. -/
theorem rPair_apply (i : VI) (r : Fin 512) : rPair i (ix2 r 0) = BitVec.ofNat 32 r.val ∧ rPair i (ix2 r 1) = i (ix2 r 0) := by
  constructor
  · pointwise [rPair]
  · pointwise [rPair, rIdx_apply]

/-- The row numbers are in range. -/
theorem rIn_row (i : VI) (r : Fin 512) : rIn i (ix2 r 0) = 1#1 := by
  pointwise [rIn, rPair_apply]
  show IntOp.andi (IntOp.cmpi CmpIPredicate.sge (BitVec.ofNat 32 r.val) 0#32)
    (IntOp.cmpi CmpIPredicate.sle (BitVec.ofNat 32 r.val) 511#32) = 1#1
  revert r
  decide +kernel

/-- Where the expert is in range. -/
theorem rIn_expert (i : VI) (r : Fin 512) :
    rIn i (ix2 r 1) = IntOp.andi (IntOp.cmpi .sge (i (ix2 r 0)) 0#32) (IntOp.cmpi .sle (i (ix2 r 0)) 15#32) := by
  pointwise [rIn, rPair_apply]
  rfl

/-- Both entries of a pair are in range where the expert is. -/
theorem mask_apply (i : VI) (r : Fin 512) :
    Finset.fold IntOp.andi (1#1) (fun x => rIn i (ix2 r x)) (Finset.univ : Finset (Fin 2))
      = IntOp.andi (IntOp.cmpi .sge (i (ix2 r 0)) 0#32) (IntOp.cmpi .sle (i (ix2 r 0)) 15#32) := by
  rw [← rIn_expert, show (Finset.univ : Finset (Fin 2)) = {0, 1} from rfl, Finset.fold_insert (by decide), Finset.fold_singleton,
    rIn_row]
  generalize rIn i (ix2 r 1) = b
  revert b
  decide

/-- A word in range names an expert, and no other does. -/
theorem named_iff (a : BitVec 32) :
    IntOp.andi (IntOp.cmpi .sge a 0#32) (IntOp.cmpi .sle a 15#32) = 1#1 ↔ ∃ e : Fin 16, a = BitVec.ofNat 32 e.val := by
  constructor
  · intro h
    obtain ⟨h1, h2⟩ := IntOp.andi_eq_one.mp h
    have hb : ∀ b : Bool, BitVec.ofBool b = 1#1 → b = true := by decide
    replace h1 := hb _ h1
    replace h2 := hb _ h2
    simp only [BitVec.sle_eq_decide, decide_eq_true_eq] at h1 h2
    have h3 : (0#32 : BitVec 32).toInt = 0 := by decide
    have h4 : (15#32 : BitVec 32).toInt = 15 := by decide
    rw [h3] at h1
    rw [h4] at h2
    have h5 := BitVec.toInt_eq_toNat_cond a
    have h6 := a.isLt
    have h7 : a.toNat < 16 := by split at h5 <;> omega
    exact ⟨⟨a.toNat, h7⟩, by simp⟩
  · rintro ⟨e, rfl⟩
    revert e
    decide

/-- The word of an expert, read as a signed number and held within the sixteen. -/
theorem clamp_expert (e : Fin 16) : min (BitVec.ofNat 32 e.val).toInt.toNat 15 = e.val := by
  revert e
  decide

/-- The word of a row, read as a signed number and held within the 512. -/
theorem clamp_row (r : Fin 512) : min (BitVec.ofNat 32 r.val).toInt.toNat 511 = r.val := by
  have h1 : (BitVec.ofNat 32 r.val).toInt = (r.val : ℤ) := by
    rw [BitVec.toInt_eq_toNat_cond, BitVec.toNat_ofNat]
    have := r.isLt
    rw [if_pos (by omega)]
    omega
  rw [h1]
  have := r.isLt
  omega

/-- The gathered probability, at a row that names expert `e`. -/
theorem gather_prob (P : FVec Ideal S512x16 .f32) (i : VI) (r : Fin 512) (e : Fin 16) (he : i (ix2 r 0) = BitVec.ofNat 32 e.val) :
    Host.gather gather_S512x16_S512x2_S512_n_01_n_n_01_1_11 P (rPair i) (ix1 r) = P (ix2 r e) := by
  unfold Host.gather
  congr 1
  funext a
  refine Fin.ext ?_
  show gather_S512x16_S512x2_S512_n_01_n_n_01_1_11.start (ix1 r) (rPair i) a
    + gather_S512x16_S512x2_S512_n_01_n_n_01_1_11.batchCoord (ix1 r) a
    + gather_S512x16_S512x2_S512_n_01_n_n_01_1_11.offCoord (ix1 r) a = _
  have hm : a ∈ ([0, 1] : List (Fin 2)) := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ gather_S512x16_S512x2_S512_n_01_n_n_01_1_11.startIndexMap from hm)]
  match a with
  | ⟨0, _⟩ =>
    have hsi : gather_S512x16_S512x2_S512_n_01_n_n_01_1_11.siIdx (ix1 r) ⟨0, by decide⟩ = (ix2 r 0 : S512x2.Idx) := by
      funext b
      refine Fin.ext ?_
      match b with
      | ⟨0, _⟩ => rfl
      | ⟨1, _⟩ => rfl
    show min (rPair i (gather_S512x16_S512x2_S512_n_01_n_n_01_1_11.siIdx (ix1 r) ⟨0, by decide⟩)).toInt.toNat 511 = r.val
    rw [hsi, (rPair_apply i r).1, clamp_row]
  | ⟨1, _⟩ =>
    have hsi : gather_S512x16_S512x2_S512_n_01_n_n_01_1_11.siIdx (ix1 r) ⟨1, by decide⟩ = (ix2 r 1 : S512x2.Idx) := by
      funext b
      refine Fin.ext ?_
      match b with
      | ⟨0, _⟩ => rfl
      | ⟨1, _⟩ => rfl
    show min (rPair i (gather_S512x16_S512x2_S512_n_01_n_n_01_1_11.siIdx (ix1 r) ⟨1, by decide⟩)).toInt.toNat 15 = e.val
    rw [hsi, (rPair_apply i r).2, he, clamp_expert]

/-- The gathered matrix, at a row that names expert `e`. -/
theorem rMat_apply (E : VE) (i : VI) (r : Fin 512) (e : Fin 16) (he : i (ix2 r 0) = BitVec.ofNat 32 e.val) (k : Fin 256) (h : Fin 512) :
    rMat E i (ix3 r k h) = E (ix3 e k h) := by
  unfold rMat Host.gather
  congr 1
  funext a
  refine Fin.ext ?_
  show gather_S16x256x512_S512x1_S512x256x512_12_0_n_n_0_1_1256512.start (ix3 r k h) (rIdx i) a
    + gather_S16x256x512_S512x1_S512x256x512_12_0_n_n_0_1_1256512.batchCoord (ix3 r k h) a
    + gather_S16x256x512_S512x1_S512x256x512_12_0_n_n_0_1_1256512.offCoord (ix3 r k h) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin S16x256x512.rank) ∈ gather_S16x256x512_S512x1_S512x256x512_12_0_n_n_0_1_1256512.startIndexMap from List.mem_singleton.mpr rfl)]
    have hsi : gather_S16x256x512_S512x1_S512x256x512_12_0_n_n_0_1_1256512.siIdx (ix3 r k h) ⟨0, by decide⟩ = (ix2 r 0 : S512x1.Idx) := by
      funext b
      refine Fin.ext ?_
      match b with
      | ⟨0, _⟩ => rfl
      | ⟨1, _⟩ => rfl
    show min (rIdx i (gather_S16x256x512_S512x1_S512x256x512_12_0_n_n_0_1_1256512.siIdx (ix3 r k h) ⟨0, by decide⟩)).toInt.toNat 15 = e.val
    rw [hsi, rIdx_apply, he, clamp_expert]
  | ⟨1, h1⟩ =>
    show _ + k.val = k.val
    unfold GatherDims.start
    rw [dif_neg (show ¬ (⟨1, h1⟩ : Fin S16x256x512.rank) ∈ gather_S16x256x512_S512x1_S512x256x512_12_0_n_n_0_1_1256512.startIndexMap from
      (by decide : ¬ (1 : Fin 3) ∈ ([0] : List (Fin 3)))), Nat.zero_add]
  | ⟨2, h2⟩ =>
    show _ + h.val = h.val
    unfold GatherDims.start
    rw [dif_neg (show ¬ (⟨2, h2⟩ : Fin S16x256x512.rank) ∈ gather_S16x256x512_S512x1_S512x256x512_12_0_n_n_0_1_1256512.startIndexMap from
      (by decide : ¬ (2 : Fin 3) ∈ ([0] : List (Fin 3)))), Nat.zero_add]

/-- The weight at a row. -/
theorem rWeight_apply (x : VX) (g : VG) (i : VI) (r : Fin 512) : rWeight x g i (ix1 r) = routed x g i r := by
  pointwise [rWeight]
  rw [mask_apply]
  by_cases hb : IntOp.andi (IntOp.cmpi .sge (i (ix2 r 0)) 0#32) (IntOp.cmpi .sle (i (ix2 r 0)) 15#32) = 1#1
  · obtain ⟨e, he⟩ := (named_iff _).mp hb
    rw [hb, ValueIdx.select_one, gather_prob _ i r e he, rProb_apply, routed_of_eq x g i r e he]
  · rw [ValueIdx.eq_zero_of_ne_one hb, ValueIdx.select_zero, routed_of_ne x g i r fun e he => hb ((named_iff _).mpr ⟨e, he⟩)]

/-- The result at an element: the shared product, and the weight times the product with the gathered matrix. -/
theorem rOut_apply (x : VX) (g : VG) (i : VI) (E : VE) (w : VW) (r h : Fin 512) :
    rOut x g i E w (ix2 r h) = shared x w r h + routed x g i r * ∑ k : Fin 256, x (ix2 r k) * rMat E i (ix3 r k h) := by
  pointwise [rOut, rWeight_apply]
  rfl

/-- THE REFERENCE'S RESULT: the shared product and every expert's part, where the row's largest score is finite. -/
theorem rOut_eq (x : VX) (g : VG) (i : VI) (E : VE) (w : VW) (r h : Fin 512) (h1 : top x g r ≠ ⊥) (h2 : top x g r ≠ ⊤) :
    rOut x g i E w (ix2 r h) = shared x w r h + ∑ e : Fin 16, part x g i E e r h := by
  rw [rOut_apply]
  congr 1
  by_cases hn : ∃ e : Fin 16, i (ix2 r 0) = BitVec.ofNat 32 e.val
  · obtain ⟨e, he⟩ := hn
    rw [sum_part_of_eq x g i E r h h1 h2 e he]
    unfold expert
    simp only [rMat_apply E i r e he]
  · have hn' : ∀ e : Fin 16, i (ix2 r 0) ≠ BitVec.ofNat 32 e.val := fun e he => hn ⟨e, he⟩
    rw [sum_part_of_ne x g i E r h hn', routed_of_ne x g i r hn', zero_mul]

end Cert.Moe
-- ==== Proof.Value.lean ====
/- The value claim: each device's result is its block of the reference's. -/
module
public import proofs.«01_k».proof.Defs
public import proofs.«01_k».proof.Proof.Frames
public import proofs.«01_k».proof.Proof.KerValue
public import proofs.«01_k».proof.Proof.RefValue
public import Idealize.ShloMosaic.Lib.Layout
@[expose] public section
noncomputable section
namespace Cert.Moe
open Idealize.ShloMosaic Idealize.SL.Sem

/-- What the precondition states about its shapes, at the kernel. -/
instance preKernel : Cert.Pre_softmax_defined_KernelIdeal.Facts := ⟨by decide, by decide, by decide, by decide, by decide⟩

/-- What the precondition states about its shapes, at the reference. -/
instance preReference : Cert.Pre_softmax_defined_ReferenceIdeal.Facts := ⟨by decide, by decide, by decide, by decide, by decide⟩

/-- What the precondition says of a row: its largest score is neither infinity. -/
theorem top_finite (x : VX) (g : VG) (i : VI) (e : FVec Ideal ⟨3, ![2, 256, 512]⟩ .f32) (w : VW)
    (hp : Cert.Pre_softmax_defined_KernelIdeal.fn (F := Ideal) x g i e w = fun _ => 1#1) (r : Fin 512) :
    top x g r ≠ ⊥ ∧ top x g r ≠ ⊤ := by
  have h := congrFun hp ix0
  unfold Cert.Pre_softmax_defined_KernelIdeal.fn at h
  have h1 := Host.reduce_andi_all _ _ _ _ _ h (ix1 r)
  pointwise at h1
  have h2 : FloatOps.absf (F := Ideal) (φ := .f32) (top x g r) < (⊤ : EReal) := by
    have h3 : ∀ b : Bool, BitVec.ofBool b = 1#1 → b = true := by decide
    have h4 := of_decide_eq_true (h3 _ h1)
    have h5 : Ideal.ofBits .f32 0x7F800000#32 = ⊤ := by simp [Ideal.ofBits, Ideal.ieee]
    rw [← h5]
    exact h4
  rw [Ideal.absf_def] at h2
  constructor
  · intro hb
    rw [hb] at h2
    simp at h2
  · intro ht
    rw [ht] at h2
    simp at h2

section

open Cert.KernelIdeal

variable (m : (ℓ : Loc nD τ sig) → Buf (Elt Ideal) ℓ) (ρ : Dev nD → PrngReg)
variable (x : VX) (g : VG) (i : VI) (E : VE) (w : VW)

/-- The experts a device holds are its block of them all. -/
theorem block_expert (c : Fin 8) (j : Fin 2) (k : Fin 256) (h : Fin 512) :
    Layout.block ⟨3, ![2, 256, 512]⟩ ⟨3, ![16, 256, 512]⟩ 0 8 c E (by decide) (ix3 j k h) = E (ix3 (ex c j) k h) := by
  rw [Layout.block_apply]
  refine congrArg E (funext fun b => Fin.ext ?_)
  match b with
  | ⟨0, _⟩ => exact congrArg (· + j.val) (Nat.mul_comm c.val 2)
  | ⟨1, _⟩ => rfl
  | ⟨2, _⟩ => rfl

/-- A device's block of the result. -/
theorem block_rows (v : FVec Ideal ⟨2, ![512, 512]⟩ .f32) (c : Fin 8) (q : Fin 64) (h : Fin 512) :
    Layout.block ⟨2, ![64, 512]⟩ ⟨2, ![512, 512]⟩ 0 8 c v (by decide) (ix2 q h) = v (ix2 (gr c q) h) := by
  rw [Layout.block_apply]
  refine congrArg v (funext fun b => Fin.ext ?_)
  match b with
  | ⟨0, _⟩ => exact congrArg (· + q.val) (Nat.mul_comm c.val 64)
  | ⟨1, _⟩ => rfl

variable {m ρ x g i E w}

/-- THE EQUATION: each device ends with its block of the reference's result. -/
theorem outC_eq_block (H : Starts m ρ x g i E w) (hf : ∀ r, top x g r ≠ ⊥ ∧ top x g r ≠ ⊤) (c : Dev nD) :
    outC m ρ c = Layout.block ⟨2, ![64, 512]⟩ ⟨2, ![512, 512]⟩ 0 8 c (rOut x g i E w) := by
  funext j
  obtain ⟨q, h, rfl⟩ : ∃ (q : Fin 64) (h : Fin 512), j = ix2 q h := ⟨j 0, j 1, by pointwise⟩
  exact (outC_apply H c q h).trans ((rOut_eq x g i E w (gr c q) h (hf _).1 (hf _).2).symm.trans (block_rows _ c q h).symm)

end

/-- The kernel over the extended reals computes the reference, where every row's softmax is defined. -/
theorem value : Cert.algebraic_KernelIdeal_ReferenceIdeal_pre_softmax_defined_KernelIdeal := fun m ρ m' ρ' hp hm => by
  have H : Starts m ρ (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := {
    hx := fun c => (xs_eq m c).trans (hm c).1
    hg := fun c => (gs_eq m ρ c).trans (hm c).2.1
    hi := fun c => (is_eq m ρ c).trans (hm c).2.2.1
    he := fun c j k h => (congrFun ((es_eq m c).trans (hm c).2.2.2.1) (ix3 j k h)).trans (block_expert _ c j k h)
    hw := fun c => (ws_eq m c).trans (hm c).2.2.2.2 }
  have hf : ∀ r, top (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) r ≠ ⊥
      ∧ top (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) r ≠ ⊤ := fun r => by
    have h := top_finite _ _ _ _ _ (hp 0) r
    rw [(hm 0).1, (hm 0).2.1] at h
    exact h
  refine ⟨rOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · exact (θ_run Cert.KernelIdeal.defs _ _).mono (fun r h c => ⟨(h.1 c).1.trans (outC_eq_block H hf c), (h.1 c).2⟩) (run_main m ρ)
  · exact (θ_run Cert.ReferenceIdeal.defs _ _).mono (fun r h => h 0) (Cert.ReferenceIdeal.Value.run (F := Ideal) m' ρ')

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims of the certificate. -/
theorem claim : Cert.Claim := ⟨Cert.Kernel.Gen.facts, Cert.KernelIdeal.Gen.facts, Cert.ReferenceIdeal.Gen.facts,
  Cert.Moe.preKernel, Cert.Moe.preReference,
  Cert.Moe.frame_kernel, Cert.Moe.frame_kernelIdeal, fun m ρ _ => Cert.Moe.frame_kernelIdeal m ρ trivial,
  Cert.Moe.frame_reference, fun m ρ _ => Cert.Moe.frame_reference m ρ trivial, trivial, Cert.Moe.value⟩

end Cert.Proof

end
